-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S512x4096 : Shape := ⟨2, ![512, 4096]⟩
abbrev S3x512x2816 : Shape := ⟨3, ![3, 512, 2816]⟩
abbrev S3x1024x2816 : Shape := ⟨3, ![3, 1024, 2816]⟩
abbrev S3x2048x2816 : Shape := ⟨3, ![3, 2048, 2816]⟩
abbrev S8 : Shape := ⟨1, ![8]⟩
abbrev S3x3 : Shape := ⟨2, ![3, 3]⟩
abbrev S_ : Shape := ⟨0, ![]⟩
abbrev S512x512 : Shape := ⟨2, ![512, 512]⟩
abbrev S1x1 : Shape := ⟨2, ![1, 1]⟩
abbrev S1x512x2816 : Shape := ⟨3, ![1, 512, 2816]⟩
abbrev S512x2816 : Shape := ⟨2, ![512, 2816]⟩
abbrev S512x2688 : Shape := ⟨2, ![512, 2688]⟩
abbrev S1x512x2688 : Shape := ⟨3, ![1, 512, 2688]⟩
abbrev S512x1408 : Shape := ⟨2, ![512, 1408]⟩
abbrev S512x1344 : Shape := ⟨2, ![512, 1344]⟩
abbrev S1x1024x2816 : Shape := ⟨3, ![1, 1024, 2816]⟩
abbrev S1024x2816 : Shape := ⟨2, ![1024, 2816]⟩
abbrev S1x2048x2816 : Shape := ⟨3, ![1, 2048, 2816]⟩
abbrev S2048x2816 : Shape := ⟨2, ![2048, 2816]⟩
abbrev S512x2048 : Shape := ⟨2, ![512, 2048]⟩

abbrev nBuf : Space → Nat
  | .hbm => 5
  | .vmem => 7
  | .smem => 2
  | _ => 0

abbrev bufTy : (tb : Table) → Fin (tcTables nBuf tb) → BufTy
  | .hbm, ⟨0, _⟩ => ⟨S4096x512, .fp8e5m2⟩
  | .hbm, ⟨1, _⟩ => ⟨S512x8192, .fp8e5m2⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .fp8e5m2⟩
  | .local _ .vmem, ⟨1, _⟩ => ⟨S512x8192, .fp8e5m2⟩
  | .local _ .vmem, ⟨2, _⟩ => ⟨S512x8192, .f32⟩
  | .local _ .vmem, ⟨3, _⟩ => ⟨S512x4096, .fp8e5m2⟩
  | .local _ .vmem, ⟨4, _⟩ => ⟨S3x512x2816, .fp8e5m2⟩
  | .local _ .vmem, ⟨5, _⟩ => ⟨S3x1024x2816, .fp8e5m2⟩
  | .local _ .vmem, ⟨6, _⟩ => ⟨S3x2048x2816, .fp8e5m2⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 2 → Bool
  | ⟨0, _⟩ => false
  | ⟨1, _⟩ => true
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 2 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_31 : BitVec 32 := 512#32
  let v35 : BitVec 32 := Scalar.muli v2 c512_i32_31
  ![0, v35.toNat]
def k0_off2 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c512_i32 : BitVec 32 := 512#32
  let v34 : BitVec 32 := Scalar.muli v33 c512_i32
  let c0_i32_37 : BitVec 32 := 0#32
  ![v34.toNat, 0]
def k0_dev8 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_34 : BitVec 32 := 1#32
  let v36 : BitVec 32 := Scalar.muli v33 c1_i32_34
  let v37 : BitVec 32 := Scalar.addi c0_i32_35 v36
  v37.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v44 : BitVec 32 := Scalar.addi v2 c2_i32_38
  let c8_i32_39 : BitVec 32 := 8#32
  let v45 : BitVec 32 := Scalar.remsi v44 c8_i32_39
  let c1_i32_44 : BitVec 32 := 1#32
  let v48 : BitVec 32 := Scalar.muli v45 c1_i32_44
  let v49 : BitVec 32 := Scalar.addi c0_i32_45 v48
  v49.toNat
def k0_dev10 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_48 : BitVec 32 := 3#32
  let v56 : BitVec 32 := Scalar.addi v2 c3_i32_48
  let c8_i32_49 : BitVec 32 := 8#32
  let v57 : BitVec 32 := Scalar.remsi v56 c8_i32_49
  let c1_i32_54 : BitVec 32 := 1#32
  let v60 : BitVec 32 := Scalar.muli v57 c1_i32_54
  let v61 : BitVec 32 := Scalar.addi c0_i32_55 v60
  v61.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_58 : BitVec 32 := 4#32
  let v68 : BitVec 32 := Scalar.addi v2 c4_i32_58
  let c8_i32_59 : BitVec 32 := 8#32
  let v69 : BitVec 32 := Scalar.remsi v68 c8_i32_59
  let c1_i32_64 : BitVec 32 := 1#32
  let v72 : BitVec 32 := Scalar.muli v69 c1_i32_64
  let v73 : BitVec 32 := Scalar.addi c0_i32_65 v72
  v73.toNat
def k0_dev12 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_68 : BitVec 32 := 5#32
  let v80 : BitVec 32 := Scalar.addi v2 c5_i32_68
  let c8_i32_69 : BitVec 32 := 8#32
  let v81 : BitVec 32 := Scalar.remsi v80 c8_i32_69
  let c1_i32_74 : BitVec 32 := 1#32
  let v84 : BitVec 32 := Scalar.muli v81 c1_i32_74
  let v85 : BitVec 32 := Scalar.addi c0_i32_75 v84
  v85.toNat
def k0_dev13 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_78 : BitVec 32 := 6#32
  let v92 : BitVec 32 := Scalar.addi v2 c6_i32_78
  let c8_i32_79 : BitVec 32 := 8#32
  let v93 : BitVec 32 := Scalar.remsi v92 c8_i32_79
  let c1_i32_84 : BitVec 32 := 1#32
  let v96 : BitVec 32 := Scalar.muli v93 c1_i32_84
  let v97 : BitVec 32 := Scalar.addi c0_i32_85 v96
  v97.toNat
def k0_dev14 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_88 : BitVec 32 := 7#32
  let v104 : BitVec 32 := Scalar.addi v2 c7_i32_88
  let c8_i32_89 : BitVec 32 := 8#32
  let v105 : BitVec 32 := Scalar.remsi v104 c8_i32_89
  let c1_i32_94 : BitVec 32 := 1#32
  let v108 : BitVec 32 := Scalar.muli v105 c1_i32_94
  let v109 : BitVec 32 := Scalar.addi c0_i32_95 v108
  v109.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_98 : BitVec 32 := 512#32
  let v116 : BitVec 32 := Scalar.muli v2 c512_i32_98
  let v117 : Index := Scalar.indexCast v116
  let c0 : Index := 0#32
  ![v117.toNat, 0]
def k0_off4 (d0 : Dev nD) : Fin 2 → Nat :=
  let c0_100 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_99 : BitVec 32 := 512#32
  let v120 : BitVec 32 := Scalar.muli v2 c512_i32_99
  let v121 : Index := Scalar.indexCast v120
  ![0, v121.toNat]
def k0_dev15 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_103 : BitVec 32 := 1#32
  let v128 : BitVec 32 := Scalar.xori v2 c1_i32_103
  let c1_i32_109 : BitVec 32 := 1#32
  let v129 : BitVec 32 := Scalar.muli v128 c1_i32_109
  let v130 : BitVec 32 := Scalar.addi c0_i32_110 v129
  v130.toNat
def k0_dev16 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_117 : BitVec 32 := 3#32
  let v139 : BitVec 32 := Scalar.xori v2 c3_i32_117
  let c1_i32_123 : BitVec 32 := 1#32
  let v140 : BitVec 32 := Scalar.muli v139 c1_i32_123
  let v141 : BitVec 32 := Scalar.addi c0_i32_124 v140
  v141.toNat
def k0_dev17 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v150 : BitVec 32 := Scalar.xori v2 c4_i32_130
  let c1_i32_136 : BitVec 32 := 1#32
  let v151 : BitVec 32 := Scalar.muli v150 c1_i32_136
  let v152 : BitVec 32 := Scalar.addi c0_i32_137 v151
  v152.toNat
def k0_off5 (d0 : Dev nD) (c1_i32_144 : BitVec 32) : Fin 2 → Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_143 : BitVec 32 := 8#32
  let v161 : BitVec 32 := Scalar.addi v2 c8_i32_143
  let v162 : BitVec 32 := Scalar.subi v161 c1_i32_144
  let c8_i32_145 : BitVec 32 := 8#32
  let v163 : BitVec 32 := Scalar.remsi v162 c8_i32_145
  let c512_i32_146 : BitVec 32 := 512#32
  let v164 : BitVec 32 := Scalar.muli v163 c512_i32_146
  ![0, v164.toNat]
def k0_dev18 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_336 : BitVec 32 := 3#32
  let v312 : BitVec 32 := Scalar.xori v2 c3_i32_336
  let c1_i32_342 : BitVec 32 := 1#32
  let v313 : BitVec 32 := Scalar.muli v312 c1_i32_342
  let v314 : BitVec 32 := Scalar.addi c0_i32_343 v313
  v314.toNat
def k0_dev19 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_336 : BitVec 32 := 3#32
  let v312 : BitVec 32 := Scalar.xori v2 c3_i32_336
  let c1_i32_356 : BitVec 32 := 1#32
  let v323 : BitVec 32 := Scalar.muli v312 c1_i32_356
  let v324 : BitVec 32 := Scalar.addi c0_i32_357 v323
  v324.toNat
def k0_dev20 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_366 : BitVec 32 := 4#32
  let v335 : BitVec 32 := Scalar.xori v2 c4_i32_366
  let c1_i32_372 : BitVec 32 := 1#32
  let v336 : BitVec 32 := Scalar.muli v335 c1_i32_372
  let v337 : BitVec 32 := Scalar.addi c0_i32_373 v336
  v337.toNat
def k0_dev21 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_366 : BitVec 32 := 4#32
  let v335 : BitVec 32 := Scalar.xori v2 c4_i32_366
  let c1_i32_386 : BitVec 32 := 1#32
  let v346 : BitVec 32 := Scalar.muli v335 c1_i32_386
  let v347 : BitVec 32 := Scalar.addi c0_i32_387 v346
  v347.toNat
def k0_dev22 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_396 : BitVec 32 := 1#32
  let v358 : BitVec 32 := Scalar.xori v2 c1_i32_396
  let c1_i32_402 : BitVec 32 := 1#32
  let v359 : BitVec 32 := Scalar.muli v358 c1_i32_402
  let v360 : BitVec 32 := Scalar.addi c0_i32_403 v359
  v360.toNat
def k0_dev23 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_396 : BitVec 32 := 1#32
  let v358 : BitVec 32 := Scalar.xori v2 c1_i32_396
  let c1_i32_416 : BitVec 32 := 1#32
  let v369 : BitVec 32 := Scalar.muli v358 c1_i32_416
  let v370 : BitVec 32 := Scalar.addi c0_i32_417 v369
  v370.toNat
def k0_off6 (d0 : Dev nD) (c1_i32_426 : BitVec 32) : Fin 2 → Nat :=
  let c0_428 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v381 : BitVec 32 := Scalar.xori v2 c1_i32_426
  let c512_i32_427 : BitVec 32 := 512#32
  let v382 : BitVec 32 := Scalar.muli v381 c512_i32_427
  let v383 : Index := Scalar.indexCast v382
  ![0, v383.toNat]
def k0_dev24 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_675 : BitVec 32 := 4#32
  let v543 : BitVec 32 := Scalar.xori v2 c4_i32_675
  let c1_i32_681 : BitVec 32 := 1#32
  let v544 : BitVec 32 := Scalar.muli v543 c1_i32_681
  let v545 : BitVec 32 := Scalar.addi c0_i32_682 v544
  v545.toNat
def k0_dev25 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_675 : BitVec 32 := 4#32
  let v543 : BitVec 32 := Scalar.xori v2 c4_i32_675
  let c1_i32_695 : BitVec 32 := 1#32
  let v554 : BitVec 32 := Scalar.muli v543 c1_i32_695
  let v555 : BitVec 32 := Scalar.addi c0_i32_696 v554
  v555.toNat
def k0_dev26 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_675 : BitVec 32 := 4#32
  let v543 : BitVec 32 := Scalar.xori v2 c4_i32_675
  let c1_i32_711 : BitVec 32 := 1#32
  let v566 : BitVec 32 := Scalar.muli v543 c1_i32_711
  let v567 : BitVec 32 := Scalar.addi c0_i32_712 v566
  v567.toNat
def k0_dev27 (d0 : Dev nD) : Nat :=
  let c0_i32_727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_675 : BitVec 32 := 4#32
  let v543 : BitVec 32 := Scalar.xori v2 c4_i32_675
  let c1_i32_726 : BitVec 32 := 1#32
  let v578 : BitVec 32 := Scalar.muli v543 c1_i32_726
  let v579 : BitVec 32 := Scalar.addi c0_i32_727 v578
  v579.toNat
def k0_dev28 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_735 : BitVec 32 := 1#32
  let v590 : BitVec 32 := Scalar.xori v2 c1_i32_735
  let c1_i32_741 : BitVec 32 := 1#32
  let v591 : BitVec 32 := Scalar.muli v590 c1_i32_741
  let v592 : BitVec 32 := Scalar.addi c0_i32_742 v591
  v592.toNat
def k0_dev29 (d0 : Dev nD) : Nat :=
  let c0_i32_756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_735 : BitVec 32 := 1#32
  let v590 : BitVec 32 := Scalar.xori v2 c1_i32_735
  let c1_i32_755 : BitVec 32 := 1#32
  let v601 : BitVec 32 := Scalar.muli v590 c1_i32_755
  let v602 : BitVec 32 := Scalar.addi c0_i32_756 v601
  v602.toNat
def k0_dev30 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_735 : BitVec 32 := 1#32
  let v590 : BitVec 32 := Scalar.xori v2 c1_i32_735
  let c1_i32_771 : BitVec 32 := 1#32
  let v613 : BitVec 32 := Scalar.muli v590 c1_i32_771
  let v614 : BitVec 32 := Scalar.addi c0_i32_772 v613
  v614.toNat
def k0_dev31 (d0 : Dev nD) : Nat :=
  let c0_i32_788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_735 : BitVec 32 := 1#32
  let v590 : BitVec 32 := Scalar.xori v2 c1_i32_735
  let c1_i32_787 : BitVec 32 := 1#32
  let v625 : BitVec 32 := Scalar.muli v590 c1_i32_787
  let v626 : BitVec 32 := Scalar.addi c0_i32_788 v625
  v626.toNat
def k0_dev32 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_797 : BitVec 32 := 3#32
  let v637 : BitVec 32 := Scalar.xori v2 c3_i32_797
  let c1_i32_803 : BitVec 32 := 1#32
  let v638 : BitVec 32 := Scalar.muli v637 c1_i32_803
  let v639 : BitVec 32 := Scalar.addi c0_i32_804 v638
  v639.toNat
def k0_dev33 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_797 : BitVec 32 := 3#32
  let v637 : BitVec 32 := Scalar.xori v2 c3_i32_797
  let c1_i32_817 : BitVec 32 := 1#32
  let v648 : BitVec 32 := Scalar.muli v637 c1_i32_817
  let v649 : BitVec 32 := Scalar.addi c0_i32_818 v648
  v649.toNat
def k0_dev34 (d0 : Dev nD) : Nat :=
  let c0_i32_834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_797 : BitVec 32 := 3#32
  let v637 : BitVec 32 := Scalar.xori v2 c3_i32_797
  let c1_i32_833 : BitVec 32 := 1#32
  let v660 : BitVec 32 := Scalar.muli v637 c1_i32_833
  let v661 : BitVec 32 := Scalar.addi c0_i32_834 v660
  v661.toNat
def k0_dev35 (d0 : Dev nD) : Nat :=
  let c0_i32_850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_797 : BitVec 32 := 3#32
  let v637 : BitVec 32 := Scalar.xori v2 c3_i32_797
  let c1_i32_849 : BitVec 32 := 1#32
  let v672 : BitVec 32 := Scalar.muli v637 c1_i32_849
  let v673 : BitVec 32 := Scalar.addi c0_i32_850 v672
  v673.toNat
def k0_dev36 (d0 : Dev nD) : Nat :=
  let c0_i32_1751_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1747_r0 : BitVec 32 := 1#32
  let v1333_r0 : BitVec 32 := Scalar.addi v2 c1_i32_1747_r0
  let c8_i32_1748_r0 : BitVec 32 := 8#32
  let v1334_r0 : BitVec 32 := Scalar.remsi v1333_r0 c8_i32_1748_r0
  let c1_i32_1750_r0 : BitVec 32 := 1#32
  let v1335_r0 : BitVec 32 := Scalar.muli v1334_r0 c1_i32_1750_r0
  let v1336_r0 : BitVec 32 := Scalar.addi c0_i32_1751_r0 v1335_r0
  v1336_r0.toNat
def k0_dev37 (d0 : Dev nD) : Nat :=
  let c0_i32_1756_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1752_r0 : BitVec 32 := 2#32
  let v1337_r0 : BitVec 32 := Scalar.addi v2 c2_i32_1752_r0
  let c8_i32_1753_r0 : BitVec 32 := 8#32
  let v1338_r0 : BitVec 32 := Scalar.remsi v1337_r0 c8_i32_1753_r0
  let c1_i32_1755_r0 : BitVec 32 := 1#32
  let v1339_r0 : BitVec 32 := Scalar.muli v1338_r0 c1_i32_1755_r0
  let v1340_r0 : BitVec 32 := Scalar.addi c0_i32_1756_r0 v1339_r0
  v1340_r0.toNat
def k0_dev38 (d0 : Dev nD) : Nat :=
  let c0_i32_1761_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1757_r0 : BitVec 32 := 3#32
  let v1341_r0 : BitVec 32 := Scalar.addi v2 c3_i32_1757_r0
  let c8_i32_1758_r0 : BitVec 32 := 8#32
  let v1342_r0 : BitVec 32 := Scalar.remsi v1341_r0 c8_i32_1758_r0
  let c1_i32_1760_r0 : BitVec 32 := 1#32
  let v1343_r0 : BitVec 32 := Scalar.muli v1342_r0 c1_i32_1760_r0
  let v1344_r0 : BitVec 32 := Scalar.addi c0_i32_1761_r0 v1343_r0
  v1344_r0.toNat
def k0_dev39 (d0 : Dev nD) : Nat :=
  let c0_i32_1766_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1762_r0 : BitVec 32 := 4#32
  let v1345_r0 : BitVec 32 := Scalar.addi v2 c4_i32_1762_r0
  let c8_i32_1763_r0 : BitVec 32 := 8#32
  let v1346_r0 : BitVec 32 := Scalar.remsi v1345_r0 c8_i32_1763_r0
  let c1_i32_1765_r0 : BitVec 32 := 1#32
  let v1347_r0 : BitVec 32 := Scalar.muli v1346_r0 c1_i32_1765_r0
  let v1348_r0 : BitVec 32 := Scalar.addi c0_i32_1766_r0 v1347_r0
  v1348_r0.toNat
def k0_dev40 (d0 : Dev nD) : Nat :=
  let c0_i32_1771_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1767_r0 : BitVec 32 := 5#32
  let v1349_r0 : BitVec 32 := Scalar.addi v2 c5_i32_1767_r0
  let c8_i32_1768_r0 : BitVec 32 := 8#32
  let v1350_r0 : BitVec 32 := Scalar.remsi v1349_r0 c8_i32_1768_r0
  let c1_i32_1770_r0 : BitVec 32 := 1#32
  let v1351_r0 : BitVec 32 := Scalar.muli v1350_r0 c1_i32_1770_r0
  let v1352_r0 : BitVec 32 := Scalar.addi c0_i32_1771_r0 v1351_r0
  v1352_r0.toNat
def k0_dev41 (d0 : Dev nD) : Nat :=
  let c0_i32_1776_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1772_r0 : BitVec 32 := 6#32
  let v1353_r0 : BitVec 32 := Scalar.addi v2 c6_i32_1772_r0
  let c8_i32_1773_r0 : BitVec 32 := 8#32
  let v1354_r0 : BitVec 32 := Scalar.remsi v1353_r0 c8_i32_1773_r0
  let c1_i32_1775_r0 : BitVec 32 := 1#32
  let v1355_r0 : BitVec 32 := Scalar.muli v1354_r0 c1_i32_1775_r0
  let v1356_r0 : BitVec 32 := Scalar.addi c0_i32_1776_r0 v1355_r0
  v1356_r0.toNat
def k0_dev42 (d0 : Dev nD) : Nat :=
  let c0_i32_1781_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1777_r0 : BitVec 32 := 7#32
  let v1357_r0 : BitVec 32 := Scalar.addi v2 c7_i32_1777_r0
  let c8_i32_1778_r0 : BitVec 32 := 8#32
  let v1358_r0 : BitVec 32 := Scalar.remsi v1357_r0 c8_i32_1778_r0
  let c1_i32_1780_r0 : BitVec 32 := 1#32
  let v1359_r0 : BitVec 32 := Scalar.muli v1358_r0 c1_i32_1780_r0
  let v1360_r0 : BitVec 32 := Scalar.addi c0_i32_1781_r0 v1359_r0
  v1360_r0.toNat
abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Cells.lean ====
/-
# `01_k` — the devices, the buffers' pieces and the semaphore cells

The words the proof is written in: the partners a device talks to, the pieces of the buffers the
copies move, the semaphore cells with the duties paid on them, their amounts and the CONTENTS each
landing hands over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy (duties `Unit`) and this kernel's (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

set_option backward.proofsInPublic true in
/-- The device `d` after `c` on the ring. -/
def sh (c : Dev nD) (d : Fin 8) : Dev nD := ⟨(c.val + d.val) % 8, Nat.mod_lt _ (by decide)⟩
set_option backward.proofsInPublic true in
/-- The device `d` before `c` on the ring. -/
def bk (c : Dev nD) (d : Fin 8) : Dev nD := ⟨(c.val + (8 - d.val)) % 8, Nat.mod_lt _ (by decide)⟩
set_option backward.proofsInPublic true in
/-- The device whose number differs from `c`'s in the bits of `m`. -/
def px (c : Dev nD) (m : Fin 8) : Dev nD := ⟨(c.val ^^^ m.val) % 8, Nat.mod_lt _ (by decide)⟩

theorem bk_sh (c : Dev nD) (d : Fin 8) : bk (sh c d) d = c := by revert c d; decide
theorem sh_bk (c : Dev nD) (d : Fin 8) : sh (bk c d) d = c := by revert c d; decide
theorem px_px (c : Dev nD) (m : Fin 8) : px (px c m) m = c := by revert c m; decide
theorem px_xor (c : Dev nD) (m n : Fin 8) : px (px c m) n = px c (m ^^^ n) := by revert c m n; decide
theorem px_zero (c : Dev nD) : px c 0 = c := by revert c; decide

/-- The partner of part `p` at stage `t`. -/
def mask (p t : Fin 3) : Fin 8 := (![![1, 3, 4], ![3, 4, 1], ![4, 1, 3]] : Fin 3 → Fin 3 → Fin 8) p t

/-- Where what piece `r` of part `p`'s stage-`t` buffer holds comes from, relative to the device holding it. -/
def rel (p t : Fin 3) (r : Fin 8) : Fin 8 :=
  mask p t ^^^ (if t = 0 then 0 else (if r.val % 2 = 1 then mask p 0 else 0) ^^^ (if r.val / 2 = 1 then mask p 1 else 0))

/-! ## The buffers and their pieces -/

abbrev xM : Memref sig .tc .vmem S4096x512 .fp8e5m2 := Memref.whole cc0_stg0_0
abbrev wM : Memref sig .tc .vmem S512x8192 .fp8e5m2 := Memref.whole cc0_stg1_0
abbrev oM : Memref sig .tc .vmem S512x8192 .f32 := Memref.whole cc0_stg4_0
abbrev xrM : Memref sig .tc .vmem S512x4096 .fp8e5m2 := Memref.whole cc0_scratch0
abbrev B0 : Memref sig .tc .vmem S3x512x2816 .fp8e5m2 := Memref.whole cc0_scratch1
abbrev B1 : Memref sig .tc .vmem S3x1024x2816 .fp8e5m2 := Memref.whole cc0_scratch2
abbrev B2 : Memref sig .tc .vmem S3x2048x2816 .fp8e5m2 := Memref.whole cc0_scratch3

theorem inbX (t : Dev nD) : ∀ a, (![512 * t.val, 0] : Fin 2 → ℕ) a + S512x512.size a ≤ S4096x512.size a := by revert t; decide
theorem inbC (t : Dev nD) : ∀ a, (![0, 512 * t.val] : Fin 2 → ℕ) a + S512x512.size a ≤ S512x4096.size a := by revert t; decide

/-- Rows `512 t …` of the first operand. -/
abbrev rX (t : Dev nD) : Rect S4096x512 := Rect.unit ![512 * t.val, 0] S512x512.size (inbX t)
/-- Columns `512 t …` of the gathered rows. -/
abbrev rC (t : Dev nD) : Rect S512x4096 := Rect.unit ![0, 512 * t.val] S512x512.size (inbC t)

abbrev xS (t : Dev nD) : Memref sig .tc .vmem S512x512 .fp8e5m2 := xM.slice (rX t) (fun _ => rfl)
abbrev xrB (t : Dev nD) : Memref sig .tc .vmem S512x512 .fp8e5m2 := xrM.slice (rC t) (fun _ => rfl)

/-- A part's shape. -/
abbrev Sp : Fin 3 → Shape
  | 0 => S512x2816
  | 1 => S512x2688
  | 2 => S512x2688

/-- Part `p` of the second operand's columns. -/
abbrev wP : (p : Fin 3) → Memref sig .tc .vmem (Sp p) .fp8e5m2
  | 0 => wM.slice (Rect.unit (s := S512x8192) ![0, 0] S512x2816.size inb_S512x8192_S512x2816_0_0) (fun _ => rfl)
  | 1 => wM.slice (Rect.unit (s := S512x8192) ![0, 2816] S512x2688.size inb_S512x8192_S512x2688_0_2816) (fun _ => rfl)
  | 2 => wM.slice (Rect.unit (s := S512x8192) ![0, 5504] S512x2688.size inb_S512x8192_S512x2688_0_5504) (fun _ => rfl)

theorem inb0a (p : Fin 3) : ∀ a, (![p.val, 0, 0] : Fin 3 → ℕ) a + S1x512x2816.size a ≤ S3x512x2816.size a := by revert p; decide
theorem inb0b (p : Fin 3) : ∀ a, (![p.val, 0, 0] : Fin 3 → ℕ) a + S1x512x2688.size a ≤ S3x512x2816.size a := by revert p; decide
theorem inb1a (p : Fin 3) (r : Fin 2) : ∀ a, (![p.val, 512 * r.val, 0] : Fin 3 → ℕ) a + S1x512x2816.size a ≤ S3x1024x2816.size a := by revert p r; decide
theorem inb1b (p : Fin 3) (r : Fin 2) : ∀ a, (![p.val, 512 * r.val, 0] : Fin 3 → ℕ) a + S1x512x2688.size a ≤ S3x1024x2816.size a := by revert p r; decide
theorem inb2a (p : Fin 3) (r : Fin 4) : ∀ a, (![p.val, 512 * r.val, 0] : Fin 3 → ℕ) a + S1x512x2816.size a ≤ S3x2048x2816.size a := by revert p r; decide
theorem inb2b (p : Fin 3) (r : Fin 4) : ∀ a, (![p.val, 512 * r.val, 0] : Fin 3 → ℕ) a + S1x512x2688.size a ≤ S3x2048x2816.size a := by revert p r; decide

/-- Part `p`'s buffer of stage 0. -/
abbrev b0 : (p : Fin 3) → Memref sig .tc .vmem (Sp p) .fp8e5m2
  | 0 => (B0.slice (Rect.unit (s := S3x512x2816) ![(0 : Fin 3).val, 0, 0] S1x512x2816.size (inb0a 0)) (fun _ => rfl)).squeeze S512x2816 squeezes_S1x512x2816_S512x2816
  | 1 => (B0.slice (Rect.unit (s := S3x512x2816) ![(1 : Fin 3).val, 0, 0] S1x512x2688.size (inb0b 1)) (fun _ => rfl)).squeeze S512x2688 squeezes_S1x512x2688_S512x2688
  | 2 => (B0.slice (Rect.unit (s := S3x512x2816) ![(2 : Fin 3).val, 0, 0] S1x512x2688.size (inb0b 2)) (fun _ => rfl)).squeeze S512x2688 squeezes_S1x512x2688_S512x2688

/-- Piece `r` of part `p`'s buffer of stage 1. -/
abbrev b1 (p : Fin 3) (r : Fin 2) : Memref sig .tc .vmem (Sp p) .fp8e5m2 := match p with
  | 0 => (B1.slice (Rect.unit (s := S3x1024x2816) ![(0 : Fin 3).val, 512 * r.val, 0] S1x512x2816.size (inb1a 0 r)) (fun _ => rfl)).squeeze S512x2816 squeezes_S1x512x2816_S512x2816
  | 1 => (B1.slice (Rect.unit (s := S3x1024x2816) ![(1 : Fin 3).val, 512 * r.val, 0] S1x512x2688.size (inb1b 1 r)) (fun _ => rfl)).squeeze S512x2688 squeezes_S1x512x2688_S512x2688
  | 2 => (B1.slice (Rect.unit (s := S3x1024x2816) ![(2 : Fin 3).val, 512 * r.val, 0] S1x512x2688.size (inb1b 2 r)) (fun _ => rfl)).squeeze S512x2688 squeezes_S1x512x2688_S512x2688

/-- Piece `r` of part `p`'s buffer of stage 2. -/
abbrev b2 (p : Fin 3) (r : Fin 4) : Memref sig .tc .vmem (Sp p) .fp8e5m2 := match p with
  | 0 => (B2.slice (Rect.unit (s := S3x2048x2816) ![(0 : Fin 3).val, 512 * r.val, 0] S1x512x2816.size (inb2a 0 r)) (fun _ => rfl)).squeeze S512x2816 squeezes_S1x512x2816_S512x2816
  | 1 => (B2.slice (Rect.unit (s := S3x2048x2816) ![(1 : Fin 3).val, 512 * r.val, 0] S1x512x2688.size (inb2b 1 r)) (fun _ => rfl)).squeeze S512x2688 squeezes_S1x512x2688_S512x2688
  | 2 => (B2.slice (Rect.unit (s := S3x2048x2816) ![(2 : Fin 3).val, 512 * r.val, 0] S1x512x2688.size (inb2b 2 r)) (fun _ => rfl)).squeeze S512x2688 squeezes_S1x512x2688_S512x2688

set_option backward.proofsInPublic true in
/-- Piece `r` of part `p`'s buffer of stage `t`. -/
abbrev bM (p t : Fin 3) (r : Fin 8) : Memref sig .tc .vmem (Sp p) .fp8e5m2 := match t with
  | 0 => b0 p
  | 1 => b1 p ⟨r.val % 2, Nat.mod_lt _ (by decide)⟩
  | 2 => b2 p ⟨r.val % 4, Nat.mod_lt _ (by decide)⟩

/-! ## The amounts -/

abbrev NA : ℕ := (xrB 0).view.dmaCredit
abbrev NP (p : Fin 3) : ℕ := (b0 p).view.dmaCredit

theorem NA_pos : 0 < NA := View.dmaCredit_pos _ (by decide)
theorem NP_pos (p : Fin 3) : 0 < NP p := View.dmaCredit_pos _ (by revert p; decide)
theorem NA_xr (t : Dev nD) : (xrB t).view.dmaCredit = NA := rfl
theorem NP_b (p t : Fin 3) (r : Fin 8) : (bM p t r).view.dmaCredit = NP p := by
  match p, t with
  | 0, 0 => rfl
  | 0, 1 => rfl
  | 0, 2 => rfl
  | 1, 0 => rfl
  | 1, 1 => rfl
  | 1, 2 => rfl
  | 2, 0 => rfl
  | 2, 1 => rfl
  | 2, 2 => rfl

/-! ## The cells -/

/-- The semaphore cells of a device: the barrier's, the exit's, the two of each row-block copy, the two of each part's stage. -/
inductive CI where
  | bar
  | ex
  | sa (d : Fin 8)
  | ra (d : Fin 8)
  | ss (p t : Fin 3)
  | rs (p t : Fin 3)
deriving DecidableEq

/-- All of them, in a row. -/
def allCI : List CI :=
  [.bar, .ex] ++ (List.finRange 8).map .sa ++ (List.finRange 8).map .ra
    ++ (List.finRange 9).map (fun i => .ss (finProdFinEquiv (m := 3) (n := 3) |>.symm i).1 (finProdFinEquiv (m := 3) (n := 3) |>.symm i).2)
    ++ (List.finRange 9).map (fun i => .rs (finProdFinEquiv (m := 3) (n := 3) |>.symm i).1 (finProdFinEquiv (m := 3) (n := 3) |>.symm i).2)

theorem mem_allCI (k : CI) : k ∈ allCI := by
  cases k with
  | bar => decide
  | ex => decide
  | sa d => revert d; decide
  | ra d => revert d; decide
  | ss p t => revert p t; decide
  | rs p t => revert p t; decide
theorem nodup_allCI : allCI.Nodup := by decide
instance : Fintype CI := ⟨allCI.toFinset, fun k => List.mem_toFinset.mpr (mem_allCI k)⟩
theorem univ_CI : (Finset.univ : Finset CI) = allCI.toFinset := rfl

abbrev barS : Sem sig := (SemArray.scalar (sig.barrier 0 rfl) : Sems sig S_).sem
abbrev exS : Sem sig := (cc0_scoped0 : Sems sig S_).sem

set_option backward.proofsInPublic true in
/-- The cell's semaphore. -/
abbrev csem : CI → SemLoc sig
  | .bar => .reg barS
  | .ex => .reg exS
  | .sa d => .dma (⟨5 + d.val, by have := d.isLt; show _ < 39; omega⟩ : DmaSem sig)
  | .ra d => .dma (⟨13 + d.val, by have := d.isLt; show _ < 39; omega⟩ : DmaSem sig)
  | .ss p t => .dma (⟨21 + (3 * p.val + t.val), by have := p.isLt; have := t.isLt; show _ < 39; omega⟩ : DmaSem sig)
  | .rs p t => .dma (⟨30 + (3 * p.val + t.val), by have := p.isLt; have := t.isLt; show _ < 39; omega⟩ : DmaSem sig)

/-- Which cell a semaphore is. -/
def ciOf (sm : SemLoc sig) : Option CI := allCI.find? (fun k => csem k = sm)

theorem csem_inj : Function.Injective csem := by
  have h : ∀ a ∈ allCI, ∀ b ∈ allCI, csem a = csem b → a = b := by decide
  intro a b hab
  exact h a (mem_allCI a) b (mem_allCI b) hab

theorem ciOf_csem (k : CI) : ciOf (csem k) = some k := by
  unfold ciOf
  have h : (allCI.find? (fun j => csem j = csem k)).isSome := List.find?_isSome.mpr ⟨k, mem_allCI k, by simp⟩
  obtain ⟨j, hj⟩ := Option.isSome_iff_exists.mp h
  rw [hj]
  have := List.find?_some hj
  simp only [decide_eq_true_eq] at this
  rw [csem_inj this]

theorem csem_ciOf {sm : SemLoc sig} {k : CI} (h : ciOf sm = some k) : csem k = sm := by
  unfold ciOf at h
  have := List.find?_some h
  simpa using this

abbrev cell (c : Dev nD) (k : CI) : GSem nD τ sig := ((c : Thread nD τ), csem k)

/-- The duties paid on a cell. -/
def dut : CI → Finset (Fin 8)
  | .bar => Finset.univ.erase 0
  | .ex => Finset.univ.erase 0
  | .sa d => if d = 0 then ∅ else {0}
  | .ra d => if d = 0 then ∅ else {0}
  | .ss _ t => Finset.univ.filter (fun r => r.val < 2 ^ t.val)
  | .rs _ t => Finset.univ.filter (fun r => r.val < 2 ^ t.val)

/-- What one duty pays. -/
def amt : CI → ℕ
  | .bar => 1
  | .ex => 1
  | .sa _ => NA
  | .ra _ => NA
  | .ss p _ => NP p
  | .rs p _ => NP p

theorem amt_pos (k : CI) : 0 < amt k := by
  cases k <;> first | exact Nat.one_pos | exact NA_pos | exact NP_pos _

/-! ## The contents -/

section Pay

variable (X : Dev nD → (cc0_stg0_0 : Ref sig .tc).ty.Contents (Elt F)) (W : Dev nD → (cc0_stg1_0 : Ref sig .tc).ty.Contents (Elt F))

/-- Row block `t` of device `e`'s first operand. -/
def xrow (e t : Dev nD) : S512x512.Idx → Elt F .fp8e5m2 := (xS t).view.read (Elt F) (X e)
/-- Part `p` of device `e`'s second operand. -/
def wpart (p : Fin 3) (e : Dev nD) : (Sp p).Idx → Elt F .fp8e5m2 := match p with
  | 0 => (wP 0).view.read (Elt F) (W e)
  | 1 => (wP 1).view.read (Elt F) (W e)
  | 2 => (wP 2).view.read (Elt F) (W e)

/-- The four shares a part of the second operand is held in: one for the copy of each stage, one for the loads. -/
def qs : Fin 4 → PosShare TreeShare
  | 0 => fullShare.left.left
  | 1 => fullShare.left.right
  | 2 => fullShare.right.left
  | 3 => fullShare.right.right

/-- Some contents in the pieces of part `p`'s buffer of stage `t` on device `e`. -/
def bAny (e : Dev nD) (p t : Fin 3) : sProp 𝕄 := match t with
  | 0 => iprop(∃ V, owns (e : Thread nD τ) (b0 p) fullShare V)
  | 1 => iprop((∃ V, owns (e : Thread nD τ) (b1 p 0) fullShare V) ∗ (∃ V, owns (e : Thread nD τ) (b1 p 1) fullShare V))
  | 2 => iprop((∃ V, owns (e : Thread nD τ) (b2 p 0) fullShare V) ∗ (∃ V, owns (e : Thread nD τ) (b2 p 1) fullShare V)
      ∗ (∃ V, owns (e : Thread nD τ) (b2 p 2) fullShare V) ∗ (∃ V, owns (e : Thread nD τ) (b2 p 3) fullShare V))

/-- What `e`'s barrier signal hands `c`: the columns of `e`'s gathered rows `c` writes, and `e`'s pieces of the stages `c` is `e`'s partner at. -/
def give (e c : Dev nD) : sProp 𝕄 :=
  iprop((∃ V, owns (e : Thread nD τ) (xrB c) fullShare V)
    ∗ bigSep Finset.univ fun pt : Fin 3 × Fin 3 => if px c (mask pt.1 pt.2) = e then bAny (F := F) e pt.1 pt.2 else iprop(emp))

/-- What a part's copy `r` of stage `t` gives back on its source: the share it read. -/
def srcPay (c : Dev nD) (p t : Fin 3) (r : Fin 8) : sProp 𝕄 := match t, r with
  | 0, _ => owns (c : Thread nD τ) (wP p) (qs 0) (wpart W p c)
  | 1, 0 => owns (c : Thread nD τ) (wP p) (qs 1) (wpart W p c)
  | 1, _ => owns (c : Thread nD τ) (b0 p) fullShare.left.left (wpart W p (px c (rel p 0 0)))
  | 2, 0 => owns (c : Thread nD τ) (wP p) (qs 2) (wpart W p c)
  | 2, 1 => owns (c : Thread nD τ) (b0 p) fullShare.left.right (wpart W p (px c (rel p 0 0)))
  | 2, 2 => owns (c : Thread nD τ) (b1 p 0) fullShare.left (wpart W p (px c (rel p 1 0)))
  | 2, _ => owns (c : Thread nD τ) (b1 p 1) fullShare.left (wpart W p (px c (rel p 1 1)))

/-- What duty `d` of a cell of `c` hands over. -/
def pay (c : Dev nD) : CI → Fin 8 → sProp 𝕄
  | .bar, d => give (F := F) (bk c d) c
  | .ex, _ => iprop(emp)
  | .sa d, _ => owns (c : Thread nD τ) (xS (sh c d)) fullShare (xrow X c (sh c d))
  | .ra d, _ => owns (c : Thread nD τ) (xrB (bk c d)) fullShare (xrow X (bk c d) c)
  | .ss p t, r => srcPay W c p t r
  | .rs p t, r => owns (c : Thread nD τ) (bM p t r) fullShare (wpart W p (px c (rel p t r)))

omit [FloatOps F] in
instance bAny_storable (e : Dev nD) (p t : Fin 3) : BI.Storable (upEmb : UEmb _ 𝕄) (bAny (F := F) e p t) := by
  match t with
  | 0 => unfold bAny; infer_instance
  | 1 => unfold bAny; infer_instance
  | 2 => unfold bAny; infer_instance
omit [FloatOps F] in
instance give_storable (e c : Dev nD) : BI.Storable (upEmb : UEmb _ 𝕄) (give (F := F) e c) := by
  have : ∀ pt : Fin 3 × Fin 3, BI.Storable (upEmb : UEmb _ 𝕄)
      (if px c (mask pt.1 pt.2) = e then bAny (F := F) e pt.1 pt.2 else iprop(emp)) := fun pt => by split <;> infer_instance
  unfold give; infer_instance
omit [FloatOps F] in
instance srcPay_storable (c : Dev nD) (p t : Fin 3) (r : Fin 8) : BI.Storable (upEmb : UEmb _ 𝕄) (srcPay W c p t r) := by
  unfold srcPay; split <;> infer_instance
omit [FloatOps F] in
instance pay_storable (c : Dev nD) (k : CI) (d : Fin 8) : BI.Storable (upEmb : UEmb _ 𝕄) (pay X W c k d) := by
  cases k <;> (unfold pay; infer_instance)

/-- The duties of a semaphore that may be no cell. -/
def dutO (o : Option CI) : Finset (Fin 8) := o.elim ∅ dut
/-- What a duty of such a semaphore pays. -/
def amtO (o : Option CI) : ℕ := o.elim 1 amt
/-- What it hands over. -/
def payO (c : Dev nD) (o : Option CI) (d : Fin 8) : sProp 𝕄 := o.elim iprop(emp) (fun k => pay X W c k d)

theorem amtO_pos (o : Option CI) : 0 < amtO o := by
  cases o with
  | none => exact Nat.one_pos
  | some k => exact amt_pos k

omit [FloatOps F] in
instance payO_storable (c : Dev nD) (o : Option CI) (d : Fin 8) : BI.Storable (upEmb : UEmb _ 𝕄) (payO X W c o d) := by
  cases o with
  | none => show BI.Storable _ (iprop(emp) : sProp 𝕄); infer_instance
  | some k => exact pay_storable X W c k d

/-- One round, round 0, on every cell. -/
def hRd : Rounds.Schedule (GSem nD τ sig) (Fin 8) 𝕄 where
  duties g r := if r = 0 ∧ g.1.2 = .tc then dutO (ciOf g.2) else ∅
  unitless _ := False
  amount g _ _ := amtO (ciOf g.2)
  payload g _ d := payO X W g.1.1 (ciOf g.2) d
  amount_pos g _ _ _ := amtO_pos (ciOf g.2)

omit [FloatOps F] in
instance hRd_payload_storable (g : GSem nD τ sig) (r : ℕ) (d : Fin 8) :
    BI.Storable (upEmb : UEmb _ 𝕄) ((hRd (F := F) X W).payload g r d) := payO_storable X W g.1.1 (ciOf g.2) d

variable (c : Dev nD) (k : CI)

omit [FloatOps F] in
theorem duties_cell : (hRd (F := F) X W).duties (cell c k) 0 = dut k := by
  unfold hRd; dsimp only [cell]; rw [if_pos ⟨rfl, rfl⟩, ciOf_csem]; rfl
omit [FloatOps F] in
theorem amount_cell (d : Fin 8) : (hRd (F := F) X W).amount (cell c k) 0 d = amt k := by
  unfold hRd; dsimp only [cell]; rw [ciOf_csem]; rfl
omit [FloatOps F] in
theorem payload_cell (d : Fin 8) : (hRd (F := F) X W).payload (cell c k) 0 d = pay X W c k d := by
  unfold hRd; dsimp only [cell]; rw [ciOf_csem]; rfl
omit [FloatOps F] in
theorem duties_later (g : GSem nD τ sig) : ∀ r, 1 ≤ r → (hRd (F := F) X W).duties g r = ∅ :=
  fun r hr => by unfold hRd; dsimp only; rw [if_neg fun h => by omega]
omit [FloatOps F] in
theorem expect_cell : (hRd (F := F) X W).expect (cell c k) 0 = (dut k).card * amt k := by
  unfold Schedule.expect Schedule.amountOf
  rw [duties_cell, Finset.sum_congr rfl fun d _ => amount_cell X W c k d, Finset.sum_const, smul_eq_mul]

end Pay

end Cert.KernelIdeal.Hyper

end
-- ==== Proof.Ops.lean ====
/-
# `01_k` — the body's steps over the cells

What a device owes and pays in order, the persistent record of the cells, and one rule for each kind of step: a signal, a
copy, a wait for one of several copies, a wait for the rest, a load, a store.
-/
module

public import proofs.«01_k».proof.Proof.Cells

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device pays, in program order -/

/-- Whom a payment goes to, relative to the payer. -/
inductive Tg where
  | sh (d : Fin 8)
  | px (m : Fin 8)
deriving DecidableEq

def tgt (c : Dev nD) : Tg → Dev nD
  | .sh d => Hyper.sh c d
  | .px m => Hyper.px c m

/-- One payment: the cell, the duty, to whom, and the payer's own cell if it is a copy. -/
structure Item where
  ci : CI
  d : Fin 8
  tg : Tg
  snd : Option CI
deriving DecidableEq

def it (p t : Fin 3) (r : Fin 8) : Item := ⟨.rs p t, r, .px (mask p t), some (.ss p t)⟩

/-- Every payment of the body, in program order. -/
def items : List Item :=
  [⟨.bar, 1, .sh 1, none⟩, ⟨.bar, 2, .sh 2, none⟩, ⟨.bar, 3, .sh 3, none⟩, ⟨.bar, 4, .sh 4, none⟩, ⟨.bar, 5, .sh 5, none⟩, ⟨.bar, 6, .sh 6, none⟩, ⟨.bar, 7, .sh 7, none⟩,
   ⟨.ra 1, 0, .sh 1, some (.sa 1)⟩, ⟨.ra 2, 0, .sh 2, some (.sa 2)⟩, ⟨.ra 3, 0, .sh 3, some (.sa 3)⟩, ⟨.ra 4, 0, .sh 4, some (.sa 4)⟩,
   ⟨.ra 5, 0, .sh 5, some (.sa 5)⟩, ⟨.ra 6, 0, .sh 6, some (.sa 6)⟩, ⟨.ra 7, 0, .sh 7, some (.sa 7)⟩,
   it 0 0 0, it 1 0 0, it 2 0 0,
   it 0 1 0, it 0 1 1, it 1 1 0, it 1 1 1, it 2 1 0, it 2 1 1,
   it 0 2 0, it 0 2 1, it 0 2 2, it 0 2 3, it 1 2 0, it 1 2 1, it 1 2 2, it 1 2 3, it 2 2 0, it 2 2 1, it 2 2 2, it 2 2 3,
   ⟨.ex, 1, .sh 1, none⟩, ⟨.ex, 2, .sh 2, none⟩, ⟨.ex, 3, .sh 3, none⟩, ⟨.ex, 4, .sh 4, none⟩, ⟨.ex, 5, .sh 5, none⟩, ⟨.ex, 6, .sh 6, none⟩, ⟨.ex, 7, .sh 7, none⟩]

/-- What `c` owes for the payments `l`. -/
def oweL (c : Dev nD) : List Item → CellTallies nD τ sig Unit
  | [] => 0
  | x :: l => oweL c l + tallyAt (cell (tgt c x.tg) x.ci) () (amt x.ci)

/-- The token of the payer's own cell, if the payment is a copy. -/
def sndTok (c : Dev nD) (d : Fin 8) : Option CI → sProp 𝕄
  | some s => dutyTok ER (cell c s) 0 d
  | none => iprop(emp)

/-- The duty tokens of the payments `l`. -/
def tokL (c : Dev nD) : List Item → sProp 𝕄
  | [] => iprop(emp)
  | x :: l => iprop(dutyTok ER (cell (tgt c x.tg) x.ci) 0 x.d ∗ sndTok c x.d x.snd ∗ tokL c l)

/-- The payments `l` are left: what is owed for them and their tokens. -/
def Due (c : Dev nD) (l : List Item) : sProp 𝕄 :=
  iprop((∃ W, owes (c : Thread nD τ) (oweL c l) W) ∗ tokL c l)

omit [FloatOps F] in
theorem ent_rfl {P : sProp 𝕄} : P ⊢ P := by iintro H; iexact H

/-! ## The levels -/

/-- A cell's level: the later in the program it is waited on, the higher. -/
def lvC : CI → ℕ
  | .bar => 1
  | .ex => 7
  | .sa _ => 0
  | .ra _ => 2
  | .ss _ _ => 0
  | .rs _ t => 3 + t.val

def L (g : GSem nD τ sig) : Finset Unit := if g.1.2 = .tc then {()} else ∅
def lv (g : GSem nD τ sig) (_ : Unit) : ℕ := (ciOf g.2).elim 0 lvC

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CI) : lv (cell c k) () = lvC k := by
  unfold lv; dsimp only [cell]; rw [ciOf_csem]; rfl

theorem oweL_pos {c : Dev nD} {l : List Item} {g : GSem nD τ sig} {u : Unit} (h : 0 < oweL c l g u) :
    ∃ x ∈ l, g = cell (tgt c x.tg) x.ci := by
  induction l with
  | nil => exact absurd h (Nat.lt_irrefl 0)
  | cons x l ih =>
    unfold oweL at h
    rw [Pi.add_apply, Finsupp.add_apply, tallyAt_apply] at h
    by_cases hg : g = cell (tgt c x.tg) x.ci ∧ u = ()
    · exact ⟨x, List.mem_cons_self, hg.1⟩
    · rw [if_neg hg, Nat.add_zero] at h
      obtain ⟨y, hy, hy'⟩ := ih h
      exact ⟨y, List.mem_cons_of_mem _ hy, hy'⟩

omit [FloatOps F] in
/-- A device may wait at a level below everything it still has to pay. -/
theorem mayWait_lt (c : Dev nD) (sm : SemLoc sig) (n : ℕ) (hn : lv ((c : Thread nD τ), sm) () = n) (l : List Item)
    (hl : l.all (fun x => decide (n < lvC x.ci)) = true) :
    (levAts L lv : sProp 𝕄) ⊢ MayWait (c : Thread nD τ) sm () (oweL c l) :=
  MayOwe.of_cut (L := L) (lev := lv) n (fun p hp => by rw [Finset.mem_singleton.mp hp, L_tc]; exact Finset.mem_singleton_self _)
    (fun g u hg => by
      obtain ⟨x, hx, rfl⟩ := oweL_pos hg
      rw [L_tc]; exact Finset.mem_singleton_self _)
    (fun p hp => by rw [Finset.mem_singleton.mp hp, hn])
    (fun g u hg => by
      obtain ⟨x, hx, rfl⟩ := oweL_pos hg
      rw [lv_cell]
      exact of_decide_eq_true (List.all_eq_true.mp hl x hx))

/-! ## The record of the cells -/

section Rec

variable (X : Dev nD → (cc0_stg0_0 : Ref sig .tc).ty.Contents (Elt F)) (W : Dev nD → (cc0_stg1_0 : Ref sig .tc).ty.Contents (Elt F))
variable (K : Dev nD × CI → ℕ)

/-- Every cell's invariant, round 0 reached. -/
def rec1 (ck : Dev nD × CI) : sProp 𝕄 :=
  iprop(cellInv ER (hRd X W) (K ck) (cell ck.1 ck.2) ∗ reached ER (cell ck.1 ck.2) 0)
def recs : sProp 𝕄 := bigSep Finset.univ (rec1 X W K)

omit [FloatOps F] in
instance rec1_persistent (ck : Dev nD × CI) : BI.Persistent (rec1 (F := F) X W K ck) := by unfold rec1; infer_instance
omit [FloatOps F] in
instance recs_persistent : BI.Persistent (recs (F := F) X W K) := by unfold recs; infer_instance

omit [FloatOps F] in
theorem recs_at (c : Dev nD) (k : CI) : (recs X W K : sProp 𝕄) ⊢ iprop(cellInv ER (hRd X W) (K (c, k)) (cell c k) ∗ reached ER (cell c k) 0) := by
  unfold recs
  exact (bigSep_elim (Finset.mem_univ (c, k))).trans (by unfold rec1; exact ent_rfl)

/-! ## The steps -/

variable (c : Dev nD)

omit [FloatOps F] in
theorem due_cons (ci : CI) (d : Fin 8) (tg : Tg) (s : Option CI) (l : List Item) :
    (Due c (⟨ci, d, tg, s⟩ :: l) : sProp 𝕄) = iprop((∃ W, owes (c : Thread nD τ) (oweL c l + tallyAt (cell (tgt c tg) ci) () (amt ci)) W)
      ∗ dutyTok ER (cell (tgt c tg) ci) 0 d ∗ sndTok c d s ∗ tokL c l) := rfl

/-- A signal of one unit. -/
theorem wp_sig {α : Type} {Q : α → sProp 𝕄} (l l' : List Item) (ci : CI) (d : Fin 8) (tg : Tg) (hx : l = ⟨ci, d, tg, none⟩ :: l')
    {n : Dev nD} (hn : n = tgt c tg) {sem : Sem sig} (hsem : SemLoc.reg sem = csem ci) (hd : d ∈ dut ci) (hm : amt ci = 1)
    {kk : PUnit → Prog (TpuEff nD τ sig (Elt F) Λ₀ .tc) α} :
    iprop(recs X W K ∗ Due (F := F) c l ∗ pay X W (tgt c tg) ci d)
      ⊢ iprop((Due (F := F) c l' -∗ wp frame (wpE (defs₀ (F := F)) Variants.none (c : Thread nD τ) none) Set.univ (kk ⟨⟩) Q) -∗ wp frame (wpE (defs₀ (F := F)) Variants.none (c : Thread nD τ) none) Set.univ (.op (.semSignal (n : Thread nD τ) sem 1) kk) Q) := by
  subst hn
  subst hx; rw [due_cons]
  have hcell : (((tgt c tg : Dev nD) : Thread nD τ), SemLoc.reg sem) = cell (tgt c tg) ci := congrArg (Prod.mk _) hsem
  have h1 := hcell ▸ payload_cell X W (tgt c tg) ci d
  have h2 := hcell ▸ amount_cell X W (tgt c tg) ci d
  have h3 := hcell ▸ duties_cell X W (tgt c tg) ci
  have hrec := hcell ▸ recs_at X W K (tgt c tg) ci
  rw [← hcell, hm, ← h1]; rw [hm] at h2
  iintro ⟨#HR, ⟨⟨%Wv, Ho⟩, Htok, -, Hts⟩, Hp⟩ Hk
  ihave ⟨Hi, Hre⟩ := hrec $$ HR
  iapply (Rounds.wp_signal Variants.none ER (hRd X W) (c : Thread nD τ) none (dst := ((tgt c tg : Dev nD) : Thread nD τ)) (sem := sem) (r := 0) (d := d) (k' := 1)
    (κ := K (tgt c tg, ci)) (by rw [h3]; exact hd) h2 () (O₀ := oweL c l' + tallyAt (((tgt c tg : Dev nD) : Thread nD τ), SemLoc.reg sem) () 1) (oweL c l') rfl) $$ [Ho Htok Hp]
  · isplitr; · iexact Hi
    isplitl [Ho]; · iexact Ho
    isplitl [Htok]; · iexact Htok
    isplitl [Hp]; · iexact Hp
    iexact Hre
  iintro Ho
  iapply Hk
  unfold Due
  isplitl [Ho]
  · iexists _; iexact Ho
  · iexact Hts

/-- A copy to a partner, the source read through a share. -/
theorem wp_cpy {α : Type} {Q : α → sProp 𝕄} (l l' : List Item) (ci s : CI) (d : Fin 8) (tg : Tg) (hx : l = ⟨ci, d, tg, some s⟩ :: l')
    {n : Dev nD} (hn : n = tgt c tg) {sp sp' : Space} {shp : Shape} {e : EltTy}
    {src src' : Memref sig .tc sp shp e} {dst dst' : Memref sig .tc sp' shp e} (hs : src = src') (hdt : dst = dst')
    {hsc : dst.view.ref.isScScratch = false} {sS sR : SemLoc sig} (hsS : sS = csem s) (hsR : sR = csem ci)
    {hsrc : src.view.WordExact} {hdst : dst.view.WordExact} {hsem : DmaTarget.Typed sp sR (.remote (n : Thread nD τ) dst sS hsc)}
    (hN : dst'.view.amount (csem ci) = amt ci) (hN' : amt s = amt ci) (hd1 : d ∈ dut s) (hd2 : d ∈ dut ci)
    {q : PosShare TreeShare} {V : shp.Idx → Elt F e}
    (hp1 : owns (c : Thread nD τ) src' q V ⊢ pay X W c s d)
    (hp2 : owns ((tgt c tg : Dev nD) : Thread nD τ) dst' fullShare V ⊢ pay X W (tgt c tg) ci d)
    {kk : PUnit → Prog (TpuEff nD τ sig (Elt F) Λ₀ .tc) α} :
    iprop(recs X W K ∗ Due (F := F) c l ∗ owns (c : Thread nD τ) src' q V ∗ (∃ V', owns ((tgt c tg : Dev nD) : Thread nD τ) dst' fullShare V'))
      ⊢ iprop((iprop(Due (F := F) c l' ∗ cred (tallyAt (cell c s) () (amt s))) -∗ wp frame (wpE (defs₀ (F := F)) Variants.none (c : Thread nD τ) none) Set.univ (kk ⟨⟩) Q)
          -∗ wp frame (wpE (defs₀ (F := F)) Variants.none (c : Thread nD τ) none) Set.univ (.op (.enqueueDma src (.remote (n : Thread nD τ) dst sS hsc) sR hsrc hdst hsem) kk) Q) := by
  subst hn hs hdt hsS hsR
  subst hx; rw [due_cons]
  unfold owns
  iintro ⟨#HR, ⟨⟨%Wv, Ho⟩, Htok, Htok', Hts⟩, ⟨%fs, %hfs, Hsrc⟩, ⟨%V', ⟨%fd, %hfd, Hdst⟩⟩⟩ Hk
  ihave ⟨Hi, Hre⟩ := (recs_at X W K (tgt c tg) ci) $$ HR
  ihave ⟨Hi', Hre'⟩ := (recs_at X W K c s) $$ HR
  iapply (Rounds.wp_send_pointsTo Variants.none ER (hRd X W) (c : Thread nD τ) none (c' := ((tgt c tg : Dev nD) : Thread nD τ)) (src := src) (dst := dst)
    (q := q) (fs := fs) (fd := fd) (r₁ := 0) (r₂ := 0) (d₁ := d) (d₂ := d)
    (κ₁ := K (c, s)) (κ₂ := K (tgt c tg, ci)) (by rw [duties_cell]; exact hd1) (by rw [duties_cell]; exact hd2)
    () () (amt ci) hN (by rw [amount_cell, hN']) (by rw [amount_cell])
    (oweL c l') rfl
    (by rw [payload_cell]; exact BIBase.Entails.trans (by rw [← hfs]; exact owns_intro (c : Thread nD τ) src q fs) hp1)
    (by
      rw [payload_cell]
      refine BIBase.Entails.trans ?_ hp2
      have : (_ : sProp 𝕄) ⊢ _ := owns_intro (Val := Elt F) ((tgt c tg : Dev nD) : Thread nD τ) dst fullShare (dst.view.write (Elt F) fd (src.view.read (Elt F) fs) Finset.univ)
      exact this.trans (by rw [View.read_write_univ, hfs]))) $$ [Hsrc Hdst Ho Htok Htok']
  · isplitr; · iexact Hi'
    isplitr; · iexact Hi
    isplitl [Hsrc]; · iexact Hsrc
    isplitl [Hdst]; · iexact Hdst
    isplitl [Ho]; · iexact Ho
    isplitl [Htok']; · (unfold sndTok; iexact Htok')
    isplitr; · iexact Hre'
    isplitl [Htok]; · iexact Htok
    iexact Hre
  iintro ⟨Hc, Ho⟩
  iapply Hk
  rw [hN']
  isplitr [Hc]
  · unfold Due
    isplitl [Ho]
    · iexists _; iexact Ho
    · iexact Hts
  · iexact Hc

/-- A cell of which `j` duties' worth has been waited for: some duties' payloads have been taken. -/
def WS (ci : CI) (j : ℕ) : sProp 𝕄 :=
  iprop(∃ T : Finset (Fin 8), ⌜T ⊆ dut ci⌝ ∗ atPos ER (cell c ci) 0 T (j * amt ci) ∗ bigSep T (fun d => pay X W c ci d))

/-- A wait for one duty's worth out of more. -/
theorem wp_part {α : Type} {Q : α → sProp 𝕄} (l : List Item) (ci : CI) (j : ℕ) (hl : l.all (fun x => decide (lvC ci < lvC x.ci)) = true)
    {w : TpuEff nD τ sig (Elt F) Λ₀ .tc PUnit}
    (hw : ∀ KK : PUnit → sProp 𝕄, wpE (defs₀ (F := F)) Variants.none (c : Thread nD τ) none Set.univ w KK = waitSpec (c : Thread nD τ) Set.univ (csem ci) (amt ci) KK)
    {kk : PUnit → Prog (TpuEff nD τ sig (Elt F) Λ₀ .tc) α} :
    iprop(recs X W K ∗ levAts L lv ∗ Due (F := F) c l ∗ WS X W c ci j ∗ cred (tallyAt (cell c ci) () (amt ci)))
      ⊢ iprop((iprop(Due (F := F) c l ∗ WS X W c ci (j + 1)) -∗ wp frame (wpE (defs₀ (F := F)) Variants.none (c : Thread nD τ) none) Set.univ (kk ⟨⟩) Q) -∗ wp frame (wpE (defs₀ (F := F)) Variants.none (c : Thread nD τ) none) Set.univ (.op w kk) Q) := by
  unfold WS Due
  iintro ⟨#HR, #Hlev, ⟨⟨%Wv, Ho⟩, Hts⟩, ⟨%T, %hT, Hat, HT⟩, Hc⟩ Hk
  ihave ⟨Hi, -⟩ := (recs_at X W K c ci) $$ HR
  ihave Hmw := (mayWait_lt c (csem ci) (lvC ci) (lv_cell c ci) l hl) $$ Hlev
  iapply (Rounds.wp_wait Variants.none ER (hRd X W) (c : Thread nD τ) none hw (Set.mem_univ (K (c, ci))) (cr := Finsupp.single () (amt ci))
    {(csem ci, ())} (R := 0) (m := j * amt ci) (T := T) (by rw [Util.total_single]) (image_single_subset (csem ci) () (amt ci))) $$ [Hc Ho Hat]
  · isplitr; · iexact Hi
    isplitl [Hc]; · iexact Hc
    isplitl [Ho]; · iexact Ho
    isplitr; · iexact Hmw
    iexact Hat
  iintro %S ⟨%hS, Ho, Hat, HS⟩
  iapply Hk
  isplitl [Ho Hts]
  · isplitl [Ho]
    · iexists _; iexact Ho
    · iexact Hts
  iexists S
  isplitr
  · ipureintro; rw [← duties_cell X W c ci]; exact hS.2.1
  isplitl [Hat]
  · iapply (show (atPos ER (cell c ci) 0 S (j * amt ci + amt ci) : sProp 𝕄) ⊢ atPos ER (cell c ci) 0 S ((j + 1) * amt ci) from by rw [Nat.succ_mul])
    iexact Hat
  have key : iprop(bigSep T (fun d => pay X W c ci d) ∗ bigSep (S \ T) (fun d => (hRd X W).payload (cell c ci) 0 d)) ⊢ (bigSep S (fun d => pay X W c ci d) : sProp 𝕄) := by
    rw [bigSep_congr (fun d _ => payload_cell X W c ci d)]
    conv_rhs => rw [← Finset.union_sdiff_of_subset hS.1]
    rw [bigSep_union Finset.disjoint_sdiff]
    exact ent_rfl
  iapply key
  isplitl [HT] <;> iassumption

/-- A wait for the rest of what a cell is to get. -/
theorem wp_last {α : Type} {Q : α → sProp 𝕄} (l : List Item) (ci : CI) (j k' : ℕ) (hl : l.all (fun x => decide (lvC ci < lvC x.ci)) = true)
    (hk : j * amt ci + k' = (dut ci).card * amt ci)
    {w : TpuEff nD τ sig (Elt F) Λ₀ .tc PUnit}
    (hw : ∀ KK : PUnit → sProp 𝕄, wpE (defs₀ (F := F)) Variants.none (c : Thread nD τ) none Set.univ w KK = waitSpec (c : Thread nD τ) Set.univ (csem ci) k' KK)
    {kk : PUnit → Prog (TpuEff nD τ sig (Elt F) Λ₀ .tc) α} :
    iprop(recs X W K ∗ levAts L lv ∗ Due (F := F) c l ∗ WS X W c ci j ∗ cred (tallyAt (cell c ci) () k'))
      ⊢ iprop((iprop(Due (F := F) c l ∗ atPos ER (cell c ci) 1 ∅ 0 ∗ bigSep (dut ci) (fun d => pay X W c ci d)) -∗ wp frame (wpE (defs₀ (F := F)) Variants.none (c : Thread nD τ) none) Set.univ (kk ⟨⟩) Q) -∗ wp frame (wpE (defs₀ (F := F)) Variants.none (c : Thread nD τ) none) Set.univ (.op w kk) Q) := by
  unfold WS Due
  iintro ⟨#HR, #Hlev, ⟨⟨%Wv, Ho⟩, Hts⟩, ⟨%T, %hT, Hat, HT⟩, Hc⟩ Hk
  ihave ⟨Hi, -⟩ := (recs_at X W K c ci) $$ HR
  ihave Hmw := (mayWait_lt c (csem ci) (lvC ci) (lv_cell c ci) l hl) $$ Hlev
  iapply (Rounds.wp_wait_rest_token Variants.none ER (hRd X W) (c : Thread nD τ) none hw (Set.mem_univ (K (c, ci))) ()
    (R := 0) (m := j * amt ci) (T := T) (by rw [expect_cell]; exact hk)) $$ [Hc Ho Hat]
  · isplitr; · iexact Hi
    isplitl [Hc]; · iexact Hc
    isplitl [Ho]; · iexact Ho
    isplitr; · iexact Hmw
    iexact Hat
  iintro ⟨Ho, Hat, Hx, HS⟩
  iapply Hk
  isplitl [Ho Hts]
  · isplitl [Ho]
    · iexists _; iexact Ho
    · iexact Hts
  isplitl [Hat]; · iexact Hat
  iclear Hx
  have key : iprop(bigSep T (fun d => pay X W c ci d) ∗ bigSep ((hRd X W).duties (cell c ci) 0 \ T) (fun d => (hRd X W).payload (cell c ci) 0 d))
      ⊢ (bigSep (dut ci) (fun d => pay X W c ci d) : sProp 𝕄) := by
    rw [duties_cell, bigSep_congr (fun d _ => payload_cell X W c ci d)]
    conv_rhs => rw [← Finset.union_sdiff_of_subset hT]
    rw [bigSep_union Finset.disjoint_sdiff]
    exact ent_rfl
  iapply key
  isplitl [HT] <;> iassumption

/-! ### Loads and stores of owned pieces -/

/-- A load of exactly a piece that is owned. -/
theorem wp_ld {α : Type} {Q : α → sProp 𝕄} {sp : CoreSpace} {s : Shape} {e : EltTy} {m : Memref sig .tc sp s e} {off off' size : Fin s.rank → ℕ} {inb : ∀ a, off a + size a ≤ s.size a} (inb' : ∀ a, off' a + size a ≤ s.size a) (ho : off = off')
    {hl : m.view.LoadsAt (Rect.unit off size inb)} {q : PosShare TreeShare} {V : Shape.Idx ⟨s.rank, size⟩ → Elt F e}
    {kk : (Shape.Idx ⟨s.rank, size⟩ → Elt F e) → Prog (TpuEff nD τ sig (Elt F) Λ₀ .tc) α} :
    owns (c : Thread nD τ) (m.slice (Rect.unit off' size inb') (fun _ => rfl)) q V
      ⊢ iprop((owns (c : Thread nD τ) (m.slice (Rect.unit off' size inb') (fun _ => rfl)) q V -∗ wp frame (wpE (defs₀ (F := F)) Variants.none (c : Thread nD τ) none) Set.univ (kk V) Q) -∗ wp frame (wpE (defs₀ (F := F)) Variants.none (c : Thread nD τ) none) Set.univ (.op (.load m (Rect.unit off size inb) hl) kk) Q) := by
  subst ho
  unfold owns
  iintro ⟨%f, %hf, H⟩ Hk
  iapply (wp_load_rect Variants.none (c : Thread nD τ) none Set.univ (m := m) (r := Rect.unit off size inb) (S := (m.access (Rect.unit off size inb)).set) (q := q) (f := f) subset_rfl) $$ H
  iintro H
  have hf' : (m.access (Rect.unit off size inb)).read (Elt F) f = V := hf
  rw [hf']
  iapply Hk
  iexists f
  isplitr
  · ipureintro; exact hf
  · iexact H

/-- A load of a rectangle of a piece that is owned. -/
theorem wp_ldsub {α : Type} {Q : α → sProp 𝕄} {sp : CoreSpace} {s : Shape} {e : EltTy} {m P : Memref sig .tc sp s e} {r : Rect s}
    {hl : m.view.LoadsAt r} {q : PosShare TreeShare} {V : s.Idx → Elt F e}
    (hP : (owns (c : Thread nD τ) m q V : sProp 𝕄) = owns (c : Thread nD τ) P q V)
    {kk : (r.shape.Idx → Elt F e) → Prog (TpuEff nD τ sig (Elt F) Λ₀ .tc) α} :
    owns (c : Thread nD τ) P q V
      ⊢ iprop((owns (c : Thread nD τ) P q V -∗ wp frame (wpE (defs₀ (F := F)) Variants.none (c : Thread nD τ) none) Set.univ (kk (fun j => V (r.emb j))) Q) -∗ wp frame (wpE (defs₀ (F := F)) Variants.none (c : Thread nD τ) none) Set.univ (.op (.load m r hl) kk) Q) := by
  rw [← hP]
  unfold owns
  iintro ⟨%f, %hf, H⟩ Hk
  iapply (wp_load_rect Variants.none (c : Thread nD τ) none Set.univ (m := m) (r := r) (S := m.view.set) (q := q) (f := f) (View.set_slice_subset _ _)) $$ H
  iintro H
  have hf' : (m.access r).read (Elt F) f = fun j => V (r.emb j) := by rw [← hf]; rfl
  rw [hf']
  iapply Hk
  iexists f
  isplitr
  · ipureintro; exact hf
  · iexact H

/-- A store of exactly a piece that is owned. -/
theorem wp_st {α : Type} {Q : α → sProp 𝕄} {sp : CoreSpace} {s : Shape} {e : EltTy} {m : Memref sig .tc sp s e} {off off' size : Fin s.rank → ℕ} {inb : ∀ a, off a + size a ≤ s.size a} (inb' : ∀ a, off' a + size a ≤ s.size a) (ho : off = off')
    {v : Shape.Idx ⟨s.rank, size⟩ → Elt F e} {hx : (m.access (Rect.unit off size inb)).Stores Finset.univ} {hm : (Finset.univ : Finset (Shape.Idx ⟨s.rank, size⟩)) = Finset.univ ∨ ∀ a, (Rect.unit off size inb).stride a = 1}
    {V : Shape.Idx ⟨s.rank, size⟩ → Elt F e}
    {kk : PUnit → Prog (TpuEff nD τ sig (Elt F) Λ₀ .tc) α} :
    owns (c : Thread nD τ) (m.slice (Rect.unit off' size inb') (fun _ => rfl)) fullShare V
      ⊢ iprop((owns (c : Thread nD τ) (m.slice (Rect.unit off' size inb') (fun _ => rfl)) fullShare v -∗ wp frame (wpE (defs₀ (F := F)) Variants.none (c : Thread nD τ) none) Set.univ (kk ⟨⟩) Q) -∗ wp frame (wpE (defs₀ (F := F)) Variants.none (c : Thread nD τ) none) Set.univ (.op (.store m (Rect.unit off size inb) v Finset.univ hx hm) kk) Q) := by
  subst ho
  unfold owns
  iintro ⟨%f, %hf, H⟩ Hk
  iapply (wp_store Variants.none (c : Thread nD τ) none Set.univ (m := m) (r := Rect.unit off size inb) (w := v) (Mk := Finset.univ) (hx := hx) (hm := hm) (S := (m.access (Rect.unit off size inb)).set) (f := f) (View.setOn_univ _).le) $$ H
  iintro H
  iapply Hk
  iexists ((m.access (Rect.unit off size inb)).write (Elt F) f v Finset.univ)
  isplitr [H]
  · ipureintro; exact View.read_write_univ (v := m.access (Rect.unit off size inb)) f v
  · iexact H

end Rec

end Cert.KernelIdeal.Hyper

end
-- ==== Proof.Gemm.lean ====
/-
# `01_k` — the loads' pieces, the products and the output's strips
-/
module

public import proofs.«01_k».proof.Proof.Ops

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The pieces the loads name -/

/-- A rectangle of a squeezed slice and the squeezed slice of that rectangle are the same elements. -/
theorem owns_chunk (c : Dev nD) {sp : Space} {s : Shape} {e : EltTy} (B : Memref sig .tc sp s e) (rA : Rect s) (hA : ∀ a, rA.stride a = 1)
    (s1 : Shape) (h1 : rA.shape.Squeezes s1) (rB : Rect s1) (hB : ∀ a, rB.stride a = 1) (rC : Rect s) (hC : ∀ a, rC.stride a = 1)
    (h2 : rC.shape.Squeezes rB.shape)
    (hE : ∀ j, rA.emb (Shape.reshapeEquiv h1.numel_eq (rB.emb j)) = rC.emb (Shape.reshapeEquiv h2.numel_eq j))
    {q : PosShare TreeShare} {V : rB.shape.Idx → Elt F e} :
    (owns (c : Thread nD τ) (((B.slice rA hA).squeeze s1 h1).slice rB hB) q V : sProp 𝕄)
      = owns (c : Thread nD τ) ((B.slice rC hC).squeeze rB.shape h2) q V := by
  have hemb : ((((B.slice rA hA).squeeze s1 h1).slice rB hB).view).emb = (((B.slice rC hC).squeeze rB.shape h2).view).emb := Function.Embedding.ext fun j => congrArg B.view.emb (hE j)
  have hset : ((((B.slice rA hA).squeeze s1 h1).slice rB hB).view).set = (((B.slice rC hC).squeeze rB.shape h2).view).set := by
    unfold View.set; rw [hemb]
  unfold owns
  have hread : ∀ f, ((((B.slice rA hA).squeeze s1 h1).slice rB hB).view).read (Elt F) f = (((B.slice rC hC).squeeze rB.shape h2).view).read (Elt F) f := by
    intro f
    funext j
    unfold View.read
    rw [hemb]
  simp only [hread, hset]

/-- The index of such an element, for a buffer of stacked matrices. -/
theorem chunk_idx {P n k m : ℕ} (p o : ℕ) (iA : ∀ a, (![p, 0, 0] : Fin 3 → ℕ) a + (![1, n, k] : Fin 3 → ℕ) a ≤ (![P, n, k] : Fin 3 → ℕ) a)
    (iB : ∀ a, (![o, 0] : Fin 2 → ℕ) a + (![512, m] : Fin 2 → ℕ) a ≤ (![n, k] : Fin 2 → ℕ) a)
    (iC : ∀ a, (![p, o, 0] : Fin 3 → ℕ) a + (![1, 512, m] : Fin 3 → ℕ) a ≤ (![P, n, k] : Fin 3 → ℕ) a)
    (h1 : (⟨2, ![n, k]⟩ : Shape).numel = (⟨3, ![1, n, k]⟩ : Shape).numel) (h2 : (⟨2, ![512, m]⟩ : Shape).numel = (⟨3, ![1, 512, m]⟩ : Shape).numel)
    (j : (⟨2, ![512, m]⟩ : Shape).Idx) :
    (Rect.unit (s := ⟨3, ![P, n, k]⟩) ![p, 0, 0] ![1, n, k] iA).emb (Shape.reshapeEquiv h1 ((Rect.unit (s := ⟨2, ![n, k]⟩) ![o, 0] ![512, m] iB).emb j))
      = (Rect.unit (s := ⟨3, ![P, n, k]⟩) ![p, o, 0] ![1, 512, m] iC).emb (Shape.reshapeEquiv h2 j) := by
  rw [Shape.reshapeEquiv_cons_one h1, Shape.reshapeEquiv_cons_one h2]
  funext a
  apply Fin.ext
  rw [Rect.emb_apply, Rect.emb_apply]
  match a with
  | 0 => rfl
  | 1 => show 0 + 1 * (o + 1 * (j 0 : ℕ)) = o + 1 * (j 0 : ℕ); omega
  | 2 => show 0 + 1 * (0 + 1 * (j 1 : ℕ)) = 0 + 1 * (j 1 : ℕ); omega

theorem inbA0 (p : Fin 3) : ∀ a, (![p.val, 0, 0] : Fin 3 → ℕ) a + S1x512x2816.size a ≤ S3x512x2816.size a := by revert p; decide
theorem inbA1 (p : Fin 3) : ∀ a, (![p.val, 0, 0] : Fin 3 → ℕ) a + S1x1024x2816.size a ≤ S3x1024x2816.size a := by revert p; decide
theorem inbA2 (p : Fin 3) : ∀ a, (![p.val, 0, 0] : Fin 3 → ℕ) a + S1x2048x2816.size a ≤ S3x2048x2816.size a := by revert p; decide
theorem inbR0a : ∀ a, (![0, 0] : Fin 2 → ℕ) a + S512x2816.size a ≤ S512x2816.size a := by decide
theorem inbR0b : ∀ a, (![0, 0] : Fin 2 → ℕ) a + S512x2688.size a ≤ S512x2816.size a := by decide
theorem inbR1a (r : Fin 2) : ∀ a, (![512 * r.val, 0] : Fin 2 → ℕ) a + S512x2816.size a ≤ S1024x2816.size a := by revert r; decide
theorem inbR1b (r : Fin 2) : ∀ a, (![512 * r.val, 0] : Fin 2 → ℕ) a + S512x2688.size a ≤ S1024x2816.size a := by revert r; decide
theorem inbR2a (r : Fin 4) : ∀ a, (![512 * r.val, 0] : Fin 2 → ℕ) a + S512x2816.size a ≤ S2048x2816.size a := by revert r; decide
theorem inbR2b (r : Fin 4) : ∀ a, (![512 * r.val, 0] : Fin 2 → ℕ) a + S512x2688.size a ≤ S2048x2816.size a := by revert r; decide

/-- Part `p`'s buffer of stage 0 as a load names it. -/
abbrev l0 (p : Fin 3) : Memref sig .tc .vmem (Sp p) .fp8e5m2 :=
  let A := (B0.slice (Rect.unit (s := S3x512x2816) ![p.val, 0, 0] S1x512x2816.size (inbA0 p)) (fun _ => rfl)).squeeze S512x2816 squeezes_S1x512x2816_S512x2816
  match p with
  | 0 => A.slice (Rect.unit (s := S512x2816) ![0, 0] S512x2816.size inbR0a) (fun _ => rfl)
  | 1 => A.slice (Rect.unit (s := S512x2816) ![0, 0] S512x2688.size inbR0b) (fun _ => rfl)
  | 2 => A.slice (Rect.unit (s := S512x2816) ![0, 0] S512x2688.size inbR0b) (fun _ => rfl)
/-- Piece `r` of part `p`'s buffer of stage 1 as a load names it. -/
abbrev l1 (p : Fin 3) (r : Fin 2) : Memref sig .tc .vmem (Sp p) .fp8e5m2 :=
  let A := (B1.slice (Rect.unit (s := S3x1024x2816) ![p.val, 0, 0] S1x1024x2816.size (inbA1 p)) (fun _ => rfl)).squeeze S1024x2816 squeezes_S1x1024x2816_S1024x2816
  match p with
  | 0 => A.slice (Rect.unit (s := S1024x2816) ![512 * r.val, 0] S512x2816.size (inbR1a r)) (fun _ => rfl)
  | 1 => A.slice (Rect.unit (s := S1024x2816) ![512 * r.val, 0] S512x2688.size (inbR1b r)) (fun _ => rfl)
  | 2 => A.slice (Rect.unit (s := S1024x2816) ![512 * r.val, 0] S512x2688.size (inbR1b r)) (fun _ => rfl)
/-- Piece `r` of part `p`'s buffer of stage 2 as a load names it. -/
abbrev l2 (p : Fin 3) (r : Fin 4) : Memref sig .tc .vmem (Sp p) .fp8e5m2 :=
  let A := (B2.slice (Rect.unit (s := S3x2048x2816) ![p.val, 0, 0] S1x2048x2816.size (inbA2 p)) (fun _ => rfl)).squeeze S2048x2816 squeezes_S1x2048x2816_S2048x2816
  match p with
  | 0 => A.slice (Rect.unit (s := S2048x2816) ![512 * r.val, 0] S512x2816.size (inbR2a r)) (fun _ => rfl)
  | 1 => A.slice (Rect.unit (s := S2048x2816) ![512 * r.val, 0] S512x2688.size (inbR2b r)) (fun _ => rfl)
  | 2 => A.slice (Rect.unit (s := S2048x2816) ![512 * r.val, 0] S512x2688.size (inbR2b r)) (fun _ => rfl)

section Rules

variable (X : Dev nD → (cc0_stg0_0 : Ref sig .tc).ty.Contents (Elt F)) (W : Dev nD → (cc0_stg1_0 : Ref sig .tc).ty.Contents (Elt F))
variable (c : Dev nD)

theorem hl0 (p : Fin 3) (q : PosShare TreeShare) (V : (Sp p).Idx → Elt F .fp8e5m2) :
    (owns (c : Thread nD τ) (l0 p) q V : sProp 𝕄) = owns (c : Thread nD τ) (b0 p) q V := by
  match p with
  | 0 => exact owns_chunk c B0 _ _ _ _ _ (fun _ => rfl) _ _ squeezes_S1x512x2816_S512x2816 (chunk_idx 0 0 (inbA0 0) inbR0a (inb0a 0) _ _)
  | 1 => exact owns_chunk c B0 _ _ _ _ _ (fun _ => rfl) _ _ squeezes_S1x512x2688_S512x2688 (chunk_idx 1 0 (inbA0 1) inbR0b (inb0b 1) _ _)
  | 2 => exact owns_chunk c B0 _ _ _ _ _ (fun _ => rfl) _ _ squeezes_S1x512x2688_S512x2688 (chunk_idx 2 0 (inbA0 2) inbR0b (inb0b 2) _ _)
theorem hl1 (p : Fin 3) (r : Fin 2) (q : PosShare TreeShare) (V : (Sp p).Idx → Elt F .fp8e5m2) :
    (owns (c : Thread nD τ) (l1 p r) q V : sProp 𝕄) = owns (c : Thread nD τ) (b1 p r) q V := by
  match p with
  | 0 => exact owns_chunk c B1 _ _ _ _ _ (fun _ => rfl) _ _ squeezes_S1x512x2816_S512x2816 (chunk_idx 0 (512 * r.val) (inbA1 0) (inbR1a r) (inb1a 0 r) _ _)
  | 1 => exact owns_chunk c B1 _ _ _ _ _ (fun _ => rfl) _ _ squeezes_S1x512x2688_S512x2688 (chunk_idx 1 (512 * r.val) (inbA1 1) (inbR1b r) (inb1b 1 r) _ _)
  | 2 => exact owns_chunk c B1 _ _ _ _ _ (fun _ => rfl) _ _ squeezes_S1x512x2688_S512x2688 (chunk_idx 2 (512 * r.val) (inbA1 2) (inbR1b r) (inb1b 2 r) _ _)
theorem hl2 (p : Fin 3) (r : Fin 4) (q : PosShare TreeShare) (V : (Sp p).Idx → Elt F .fp8e5m2) :
    (owns (c : Thread nD τ) (l2 p r) q V : sProp 𝕄) = owns (c : Thread nD τ) (b2 p r) q V := by
  match p with
  | 0 => exact owns_chunk c B2 _ _ _ _ _ (fun _ => rfl) _ _ squeezes_S1x512x2816_S512x2816 (chunk_idx 0 (512 * r.val) (inbA2 0) (inbR2a r) (inb2a 0 r) _ _)
  | 1 => exact owns_chunk c B2 _ _ _ _ _ (fun _ => rfl) _ _ squeezes_S1x512x2688_S512x2688 (chunk_idx 1 (512 * r.val) (inbA2 1) (inbR2b r) (inb2b 1 r) _ _)
  | 2 => exact owns_chunk c B2 _ _ _ _ _ (fun _ => rfl) _ _ squeezes_S1x512x2688_S512x2688 (chunk_idx 2 (512 * r.val) (inbA2 2) (inbR2b r) (inb2b 2 r) _ _)

/-! ## The gathered rows and the products -/

/-- All the rows of the first operand's row block `c`, gathered. -/
def xrAll : sProp 𝕄 := bigSep Finset.univ fun e : Dev nD => owns (c : Thread nD τ) (xrB e) fullShare (xrow X e c)

/-- A load of one device's columns of the gathered rows. -/
theorem wp_ldxr {α : Type} {Q : α → sProp 𝕄} (o : Dev nD) {off : Fin 2 → ℕ} {inb : ∀ a, off a + S512x512.size a ≤ S512x4096.size a} (ho : off = ![0, 512 * o.val])
    {hl : xrM.view.LoadsAt (Rect.unit (s := S512x4096) off S512x512.size inb)}
    {kk : (S512x512.Idx → Elt F .fp8e5m2) → Prog (TpuEff nD τ sig (Elt F) Λ₀ .tc) α} :
    xrAll X c ⊢ iprop((xrAll X c -∗ wp frame (wpE (defs₀ (F := F)) Variants.none (c : Thread nD τ) none) Set.univ (kk (xrow X o c)) Q)
      -∗ wp frame (wpE (defs₀ (F := F)) Variants.none (c : Thread nD τ) none) Set.univ (.op (.load xrM (Rect.unit (s := S512x4096) off S512x512.size inb) hl) kk) Q) := by
  unfold xrAll
  have key : (bigSep Finset.univ fun e : Dev nD => owns (c : Thread nD τ) (xrB e) fullShare (xrow X e c) : sProp 𝕄)
      = iprop(owns (c : Thread nD τ) (xrB o) fullShare (xrow X o c) ∗ bigSep (Finset.univ.erase o) fun e : Dev nD => owns (c : Thread nD τ) (xrB e) fullShare (xrow X e c)) :=
    bigSep_erase (Finset.mem_univ o)
  rw [key]
  iintro ⟨H, HR⟩ Hk
  iapply (wp_ld c (inbC o) ho) $$ H
  iintro H
  iapply Hk
  isplitl [H] <;> iassumption

/-- One product of a part's half: a block of the gathered rows by the half's columns of a piece, added onto the half of the output. -/
theorem wp_mm {α : Type} {Q : α → sProp 𝕄} {s : Shape} {m P : Memref sig .tc .vmem s .fp8e5m2}
    {q : PosShare TreeShare} {V : s.Idx → Elt F .fp8e5m2}
    (hP : (owns (c : Thread nD τ) m q V : sProp 𝕄) = owns (c : Thread nD τ) P q V) {r : Rect s}
    {o w : Fin 2 → ℕ} {i : ∀ a, o a + w a ≤ S512x8192.size a}
    (g : (r.shape.Idx → Elt F .fp8e5m2) → (Shape.Idx ⟨2, w⟩ → Elt F .f32) → Shape.Idx ⟨2, w⟩ → Elt F .f32)
    {hl : m.view.LoadsAt r} {h1 h2 : oM.view.LoadsAt (Rect.unit (s := S512x8192) o w i)}
    {hx : (oM.access (Rect.unit (s := S512x8192) o w i)).Stores Finset.univ} {hm : (Finset.univ : Finset (Shape.Idx ⟨2, w⟩)) = Finset.univ ∨ ∀ a, (Rect.unit (s := S512x8192) o w i).stride a = 1}
    {A : Shape.Idx ⟨2, w⟩ → Elt F .f32}
    {kk : PUnit → Prog (TpuEff nD τ sig (Elt F) Λ₀ .tc) α} :
    iprop(owns (c : Thread nD τ) P q V ∗ owns (c : Thread nD τ) (oM.slice (Rect.unit (s := S512x8192) o w i) (fun _ => rfl)) fullShare A)
      ⊢ iprop((iprop(owns (c : Thread nD τ) P q V ∗ owns (c : Thread nD τ) (oM.slice (Rect.unit (s := S512x8192) o w i) (fun _ => rfl)) fullShare (g (fun j => V (r.emb j)) A))
          -∗ wp frame (wpE (defs₀ (F := F)) Variants.none (c : Thread nD τ) none) Set.univ (kk ⟨⟩) Q)
        -∗ wp frame (wpE (defs₀ (F := F)) Variants.none (c : Thread nD τ) none) Set.univ
          (.op (.load m r hl) fun a => .op (.load oM (Rect.unit (s := S512x8192) o w i) h1) fun b => .op (.load oM (Rect.unit (s := S512x8192) o w i) h2) fun _ =>
            .op (.store oM (Rect.unit (s := S512x8192) o w i) (g a b) Finset.univ hx hm) kk) Q) := by
  iintro ⟨HP, HO⟩ Hk
  iapply (wp_ldsub c hP) $$ HP
  iintro HP
  iapply (wp_ld c i rfl) $$ HO
  iintro HO
  iapply (wp_ld c i rfl) $$ HO
  iintro HO
  iapply (wp_st c i rfl) $$ HO
  iintro HO
  iapply Hk
  isplitl [HP] <;> iassumption

/-- The first product of a part's half, stored. -/
theorem wp_mm0 {α : Type} {Q : α → sProp 𝕄} {s : Shape} {m P : Memref sig .tc .vmem s .fp8e5m2}
    {q : PosShare TreeShare} {V : s.Idx → Elt F .fp8e5m2}
    (hP : (owns (c : Thread nD τ) m q V : sProp 𝕄) = owns (c : Thread nD τ) P q V) {r : Rect s}
    {o w : Fin 2 → ℕ} {i : ∀ a, o a + w a ≤ S512x8192.size a}
    (g : (r.shape.Idx → Elt F .fp8e5m2) → Shape.Idx ⟨2, w⟩ → Elt F .f32)
    {hl : m.view.LoadsAt r} {h1 : oM.view.LoadsAt (Rect.unit (s := S512x8192) o w i)}
    {hx : (oM.access (Rect.unit (s := S512x8192) o w i)).Stores Finset.univ} {hm : (Finset.univ : Finset (Shape.Idx ⟨2, w⟩)) = Finset.univ ∨ ∀ a, (Rect.unit (s := S512x8192) o w i).stride a = 1}
    {A : Shape.Idx ⟨2, w⟩ → Elt F .f32}
    {kk : PUnit → Prog (TpuEff nD τ sig (Elt F) Λ₀ .tc) α} :
    iprop(owns (c : Thread nD τ) P q V ∗ owns (c : Thread nD τ) (oM.slice (Rect.unit (s := S512x8192) o w i) (fun _ => rfl)) fullShare A)
      ⊢ iprop((iprop(owns (c : Thread nD τ) P q V ∗ owns (c : Thread nD τ) (oM.slice (Rect.unit (s := S512x8192) o w i) (fun _ => rfl)) fullShare (g (fun j => V (r.emb j))))
          -∗ wp frame (wpE (defs₀ (F := F)) Variants.none (c : Thread nD τ) none) Set.univ (kk ⟨⟩) Q)
        -∗ wp frame (wpE (defs₀ (F := F)) Variants.none (c : Thread nD τ) none) Set.univ
          (.op (.load m r hl) fun a => .op (.load oM (Rect.unit (s := S512x8192) o w i) h1) fun _ =>
            .op (.store oM (Rect.unit (s := S512x8192) o w i) (g a) Finset.univ hx hm) kk) Q) := by
  iintro ⟨HP, HO⟩ Hk
  iapply (wp_ldsub c hP) $$ HP
  iintro HP
  iapply (wp_ld c i rfl) $$ HO
  iintro HO
  iapply (wp_st c i rfl) $$ HO
  iintro HO
  iapply Hk
  isplitl [HP] <;> iassumption

/-! ### The values of the output's six halves of parts -/

/-- The first half of a part's columns, and the second: of part 0 and of the others. -/
def chA (q : Fin 2) (V : S512x2816.Idx → Elt F .fp8e5m2) : S512x1408.Idx → Elt F .fp8e5m2 := match q with
  | 0 => fun j => V ((Rect.unit (s := S512x2816) ![0, 0] S512x1408.size inb_S512x2816_S512x1408_0_0).emb j)
  | 1 => fun j => V ((Rect.unit (s := S512x2816) ![0, 1408] S512x1408.size inb_S512x2816_S512x1408_0_1408).emb j)
def chB (q : Fin 2) (V : S512x2688.Idx → Elt F .fp8e5m2) : S512x1344.Idx → Elt F .fp8e5m2 := match q with
  | 0 => fun j => V ((Rect.unit (s := S512x2688) ![0, 0] S512x1344.size inb_S512x2688_S512x1344_0_0).emb j)
  | 1 => fun j => V ((Rect.unit (s := S512x2688) ![0, 1344] S512x1344.size inb_S512x2688_S512x1344_0_1344).emb j)

/-- Where the `n`-th summand comes from, relative to the device. -/
def ordr (p : Fin 3) : ℕ → Fin 8
  | 0 => 0
  | 1 => rel p 0 0
  | 2 => rel p 1 0
  | 3 => rel p 1 1
  | 4 => rel p 2 0
  | 5 => rel p 2 1
  | 6 => rel p 2 2
  | _ => rel p 2 3

/-- The first half-strips' values after `n + 1` products. -/
def valA (q : Fin 2) : ℕ → FVec F S512x1408 .f32
  | 0 => k0_pay3 (xrow X c c) (chA q (wpart W 0 c))
  | n + 1 => k0_pay9 (xrow X (px c (ordr 0 (n + 1))) c) (chA q (wpart W 0 (px c (ordr 0 (n + 1))))) (valA q n)
def valB (p : Fin 2) (q : Fin 2) : ℕ → FVec F S512x1344 .f32
  | 0 => k0_pay5 (xrow X c c) (chB q (match p with | 0 => wpart W 1 c | 1 => wpart W 2 c))
  | n + 1 => k0_pay11 (xrow X (px c (ordr p.succ (n + 1))) c) (chB q (match p with | 0 => wpart W 1 (px c (ordr p.succ (n + 1))) | 1 => wpart W 2 (px c (ordr p.succ (n + 1))))) (valB p q n)

/-- The six strips of the output. -/
abbrev o00 := oM.slice (Rect.unit (s := S512x8192) ![0, 0] S512x1408.size inb_S512x8192_S512x1408_0_0) (fun _ => rfl)
abbrev o01 := oM.slice (Rect.unit (s := S512x8192) ![0, 1408] S512x1408.size inb_S512x8192_S512x1408_0_1408) (fun _ => rfl)
abbrev o10 := oM.slice (Rect.unit (s := S512x8192) ![0, 2816] S512x1344.size inb_S512x8192_S512x1344_0_2816) (fun _ => rfl)
abbrev o11 := oM.slice (Rect.unit (s := S512x8192) ![0, 4160] S512x1344.size inb_S512x8192_S512x1344_0_4160) (fun _ => rfl)
abbrev o20 := oM.slice (Rect.unit (s := S512x8192) ![0, 5504] S512x1344.size inb_S512x8192_S512x1344_0_5504) (fun _ => rfl)
abbrev o21 := oM.slice (Rect.unit (s := S512x8192) ![0, 6848] S512x1344.size inb_S512x8192_S512x1344_0_6848) (fun _ => rfl)

/-- The output's strips, `n + 1` products in. -/
def outS (n : ℕ) : sProp 𝕄 :=
  iprop(owns (c : Thread nD τ) o00 fullShare (valA X W c 0 n) ∗ owns (c : Thread nD τ) o01 fullShare (valA X W c 1 n)
    ∗ owns (c : Thread nD τ) o10 fullShare (valB X W c 0 0 n) ∗ owns (c : Thread nD τ) o11 fullShare (valB X W c 0 1 n)
    ∗ owns (c : Thread nD τ) o20 fullShare (valB X W c 1 0 n) ∗ owns (c : Thread nD τ) o21 fullShare (valB X W c 1 1 n))

end Rules

/-! ## The printed parts at this launch's buffers -/

abbrev ap {β : Type _} (f : (arg0 : Memref sig .tc .vmem S4096x512 .fp8e5m2) → arg0.IsWhole → (arg1 : Memref sig .tc .vmem S512x8192 .fp8e5m2) → arg1.IsWhole
    → (arg2 : Memref sig .tc .smem S1 .f32) → arg2.IsWhole → (arg3 : Memref sig .tc .smem S1 .f32) → arg3.IsWhole → (arg4 : Memref sig .tc .vmem S512x8192 .f32) → arg4.IsWhole
    → (arg5 : Memref sig .tc .vmem S512x4096 .fp8e5m2) → arg5.IsWhole → (arg6 : Memref sig .tc .vmem S3x512x2816 .fp8e5m2) → arg6.IsWhole
    → (arg7 : Memref sig .tc .vmem S3x1024x2816 .fp8e5m2) → arg7.IsWhole → (arg8 : Memref sig .tc .vmem S3x2048x2816 .fp8e5m2) → arg8.IsWhole
    → DmaSems sig S8 → DmaSems sig S8 → DmaSems sig S3x3 → DmaSems sig S3x3 → Sems sig S_ → β) : β :=
  f xM (Memref.isWhole_whole _) wM (Memref.isWhole_whole _) (Memref.whole cc0_stg2_0) (Memref.isWhole_whole _) (Memref.whole cc0_stg3_0) (Memref.isWhole_whole _)
    oM (Memref.isWhole_whole _) xrM (Memref.isWhole_whole _) B0 (Memref.isWhole_whole _) B1 (Memref.isWhole_whole _) B2 (Memref.isWhole_whole _)
    cc0_scratch4 cc0_scratch5 cc0_scratch6 cc0_scratch7 cc0_scoped0

/-! ## The printed places -/

theorem off1 (c : Dev nD) : k0_off1 c = ![0, 512 * c.val] := k0_off1_eq c
set_option maxRecDepth 100000 in
theorem off6 (c : Dev nD) (m : Fin 8) : k0_off6 c (BitVec.ofNat 32 m.val) = ![0, 512 * (px c m).val] := by revert c m; decide
set_option maxRecDepth 100000 in
theorem off2 (c : Dev nD) (d : Fin 8) (hd : d ≠ 0) : k0_off2 c (BitVec.ofNat 32 d.val) = ![512 * (sh c d).val, 0] := by revert c d; decide
theorem off4 (c : Dev nD) : k0_off4 c = ![0, 512 * c.val] := k0_off4_eq c
theorem off3 (c : Dev nD) : k0_off3 c = ![512 * c.val, 0] := k0_off3_eq c

end Cert.KernelIdeal.Hyper

end
-- ==== Proof.Chain.lean ====
/-
# `01_k` — the body as its parts in order
-/
module

public import proofs.«01_k».proof.Proof.Gemm

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Core

variable (X : Dev nD → (cc0_stg0_0 : Ref sig .tc).ty.Contents (Elt F)) (W : Dev nD → (cc0_stg1_0 : Ref sig .tc).ty.Contents (Elt F))
variable (K : Dev nD × CI → ℕ) (c : Dev nD)

set_option maxRecDepth 65536 in
/-- The last part is the parts before it, one after another. -/
theorem chain : ap (k0_part56 (F := F)) = (ap (k0_part1 (F := F))  >>= fun a => ap (k0_part2 (F := F)) a.1 a.2.1 a.2.2.1 a.2.2.2.1 a.2.2.2.2 >>= fun _ => ap (k0_part3 (F := F)) a.1 a.2.1 >>= fun v81 => ap (k0_part4 (F := F)) a.1 a.2.1 v81 >>= fun _ =>
      ap (k0_part5 (F := F)) a.1 a.2.1 >>= fun b => ap (k0_part6 (F := F)) a.1 a.2.1 >>= fun v150 => ap (k0_part7 (F := F)) a.1 a.2.1 >>= fun _ => ap (k0_part8 (F := F)) a.1 a.2.1 >>= fun v223 =>
      ap (k0_part9 (F := F)) a.1 a.2.1 v223 >>= fun e => ap (k0_part10 (F := F)) a.1 a.2.1 b.2.1 e.1 e.2 >>= fun _ => ap (k0_part11 (F := F)) b.2.2 v150 >>= fun _ => ap (k0_part12 (F := F)) a.2.1 >>= fun v312 =>
      ap (k0_part13 (F := F)) a.1 a.2.1 v312 >>= fun v335 => ap (k0_part14 (F := F)) a.1 a.2.1 v335 >>= fun v358 => ap (k0_part15 (F := F)) a.1 a.2.1 v358 >>= fun f => ap (k0_part16 (F := F)) a.1 a.2.1 f.1 f.2 >>= fun v406 =>
      ap (k0_part17 (F := F)) a.1 a.2.1 v406 >>= fun g => ap (k0_part18 (F := F)) v312 g.1 g.2 >>= fun _ => ap (k0_part19 (F := F)) v335 v358 >>= fun _ => ap (k0_part20 (F := F)) v358 >>= fun _ =>
      ap (k0_part21 (F := F))  >>= fun _ => ap (k0_part22 (F := F)) a.2.1 >>= fun v543 => ap (k0_part23 (F := F)) a.1 v543 >>= fun _ => ap (k0_part24 (F := F)) a.1 a.2.1 v543 >>= fun v590 =>
      ap (k0_part25 (F := F)) a.1 v590 >>= fun _ => ap (k0_part26 (F := F)) a.1 a.2.1 v590 >>= fun v637 => ap (k0_part27 (F := F)) a.1 v637 >>= fun v672 => ap (k0_part28 (F := F)) a.1 a.2.1 v672 >>= fun v687 =>
      ap (k0_part29 (F := F)) a.1 a.2.1 v687 >>= fun v726 => ap (k0_part30 (F := F)) a.1 a.2.1 v726 >>= fun _ => ap (k0_part31 (F := F)) a.1 a.2.1 >>= fun v775 => ap (k0_part32 (F := F)) a.1 a.2.1 v775 >>= fun h =>
      ap (k0_part33 (F := F)) v543 h.1 h.2.1 h.2.2 >>= fun _ => ap (k0_part34 (F := F)) v543 >>= fun _ => ap (k0_part35 (F := F)) v590 >>= fun _ => ap (k0_part36 (F := F)) v590 v637 >>= fun v892 =>
      ap (k0_part37 (F := F)) v637 v892 >>= fun _ => ap (k0_part38 (F := F)) v637 >>= fun _ => ap (k0_part39 (F := F))  >>= fun _ => ap (k0_part40 (F := F))  >>= fun _ =>
      ap (k0_part41 (F := F))  >>= fun _ => ap (k0_part42 (F := F))  >>= fun _ => ap (k0_part43 (F := F)) a.1 a.2.1 >>= fun _ => ap (k0_part44 (F := F)) a.1 a.2.1 >>= fun v1067 =>
      ap (k0_part45 (F := F)) a.1 a.2.1 v1067 >>= fun i => ap (k0_part46 (F := F)) a.1 a.2.1 i.1 i.2 >>= fun j => ap (k0_part47 (F := F)) a.1 a.2.1 j.1 j.2 >>= fun v1133 => ap (k0_part48 (F := F)) a.1 a.2.1 v1133 >>= fun k =>
      ap (k0_part49 (F := F)) a.1 a.2.1 k.1 k.2 >>= fun l => ap (k0_part50 (F := F)) a.1 a.2.1 l.1 l.2 >>= fun v1221 => ap (k0_part51 (F := F)) a.1 a.2.1 v1221 >>= fun m => ap (k0_part52 (F := F)) a.1 a.2.1 m.1 m.2 >>= fun v1265 =>
      ap (k0_part53 (F := F)) b.1 v1265 >>= fun v1302 => ap (k0_part54 (F := F)) a.1 v1302 >>= fun _ => ap (k0_part55 (F := F)) a.1 a.2.1 >>= fun _ =>
      semSignalWord (⟨k0_dev40 a.1, k0_dev40_lt a.1⟩ : Dev nD) cc0_scoped0.sem 1#32 >>= fun _ =>
      pure ⟨a.1, a.2.1, Scalar.remsi (Scalar.addi a.2.1 6#32) 8#32⟩) := rfl

/-- The kernel's body is its parts, one after another. -/
theorem body_chain : ap (cc0_body (F := F)) = (ap (k0_part1 (F := F))  >>= fun a => ap (k0_part2 (F := F)) a.1 a.2.1 a.2.2.1 a.2.2.2.1 a.2.2.2.2 >>= fun _ => ap (k0_part3 (F := F)) a.1 a.2.1 >>= fun v81 => ap (k0_part4 (F := F)) a.1 a.2.1 v81 >>= fun _ =>
      ap (k0_part5 (F := F)) a.1 a.2.1 >>= fun b => ap (k0_part6 (F := F)) a.1 a.2.1 >>= fun v150 => ap (k0_part7 (F := F)) a.1 a.2.1 >>= fun _ => ap (k0_part8 (F := F)) a.1 a.2.1 >>= fun v223 =>
      ap (k0_part9 (F := F)) a.1 a.2.1 v223 >>= fun e => ap (k0_part10 (F := F)) a.1 a.2.1 b.2.1 e.1 e.2 >>= fun _ => ap (k0_part11 (F := F)) b.2.2 v150 >>= fun _ => ap (k0_part12 (F := F)) a.2.1 >>= fun v312 =>
      ap (k0_part13 (F := F)) a.1 a.2.1 v312 >>= fun v335 => ap (k0_part14 (F := F)) a.1 a.2.1 v335 >>= fun v358 => ap (k0_part15 (F := F)) a.1 a.2.1 v358 >>= fun f => ap (k0_part16 (F := F)) a.1 a.2.1 f.1 f.2 >>= fun v406 =>
      ap (k0_part17 (F := F)) a.1 a.2.1 v406 >>= fun g => ap (k0_part18 (F := F)) v312 g.1 g.2 >>= fun _ => ap (k0_part19 (F := F)) v335 v358 >>= fun _ => ap (k0_part20 (F := F)) v358 >>= fun _ =>
      ap (k0_part21 (F := F))  >>= fun _ => ap (k0_part22 (F := F)) a.2.1 >>= fun v543 => ap (k0_part23 (F := F)) a.1 v543 >>= fun _ => ap (k0_part24 (F := F)) a.1 a.2.1 v543 >>= fun v590 =>
      ap (k0_part25 (F := F)) a.1 v590 >>= fun _ => ap (k0_part26 (F := F)) a.1 a.2.1 v590 >>= fun v637 => ap (k0_part27 (F := F)) a.1 v637 >>= fun v672 => ap (k0_part28 (F := F)) a.1 a.2.1 v672 >>= fun v687 =>
      ap (k0_part29 (F := F)) a.1 a.2.1 v687 >>= fun v726 => ap (k0_part30 (F := F)) a.1 a.2.1 v726 >>= fun _ => ap (k0_part31 (F := F)) a.1 a.2.1 >>= fun v775 => ap (k0_part32 (F := F)) a.1 a.2.1 v775 >>= fun h =>
      ap (k0_part33 (F := F)) v543 h.1 h.2.1 h.2.2 >>= fun _ => ap (k0_part34 (F := F)) v543 >>= fun _ => ap (k0_part35 (F := F)) v590 >>= fun _ => ap (k0_part36 (F := F)) v590 v637 >>= fun v892 =>
      ap (k0_part37 (F := F)) v637 v892 >>= fun _ => ap (k0_part38 (F := F)) v637 >>= fun _ => ap (k0_part39 (F := F))  >>= fun _ => ap (k0_part40 (F := F))  >>= fun _ =>
      ap (k0_part41 (F := F))  >>= fun _ => ap (k0_part42 (F := F))  >>= fun _ => ap (k0_part43 (F := F)) a.1 a.2.1 >>= fun _ => ap (k0_part44 (F := F)) a.1 a.2.1 >>= fun v1067 =>
      ap (k0_part45 (F := F)) a.1 a.2.1 v1067 >>= fun i => ap (k0_part46 (F := F)) a.1 a.2.1 i.1 i.2 >>= fun j => ap (k0_part47 (F := F)) a.1 a.2.1 j.1 j.2 >>= fun v1133 => ap (k0_part48 (F := F)) a.1 a.2.1 v1133 >>= fun k =>
      ap (k0_part49 (F := F)) a.1 a.2.1 k.1 k.2 >>= fun l => ap (k0_part50 (F := F)) a.1 a.2.1 l.1 l.2 >>= fun v1221 => ap (k0_part51 (F := F)) a.1 a.2.1 v1221 >>= fun m => ap (k0_part52 (F := F)) a.1 a.2.1 m.1 m.2 >>= fun v1265 =>
      ap (k0_part53 (F := F)) b.1 v1265 >>= fun v1302 => ap (k0_part54 (F := F)) a.1 v1302 >>= fun _ => ap (k0_part55 (F := F)) a.1 a.2.1 >>= fun _ =>
      semSignalWord (⟨k0_dev40 a.1, k0_dev40_lt a.1⟩ : Dev nD) cc0_scoped0.sem 1#32 >>= fun _ =>
      semSignalWord (⟨k0_dev41 a.1, k0_dev41_lt a.1⟩ : Dev nD) cc0_scoped0.sem 1#32 >>= fun _ => semSignalWord (⟨k0_dev42 a.1, k0_dev42_lt a.1⟩ : Dev nD) cc0_scoped0.sem 1#32 >>= fun _ =>
      semWaitWord cc0_scoped0.sem 7#32 >>= fun _ => pure ⟨⟩) := by
  have h : ap (cc0_body (F := F)) = (ap (k0_part56 (F := F)) >>= fun r => semSignalWord (⟨k0_dev41 r.1, k0_dev41_lt r.1⟩ : Dev nD) cc0_scoped0.sem 1#32 >>= fun _ =>
      semSignalWord (⟨k0_dev42 r.1, k0_dev42_lt r.1⟩ : Dev nD) cc0_scoped0.sem 1#32 >>= fun _ => semWaitWord cc0_scoped0.sem 7#32 >>= fun _ => pure ⟨⟩) := rfl
  rw [h, chain]
  simp only [bind_assoc, pure_bind]

end Core

end Cert.KernelIdeal.Hyper

end
-- ==== Proof.Steps.lean ====
/-
# `01_k` — the cells' and the shares' small facts
-/
module

public import proofs.«01_k».proof.Proof.Gemm

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps

variable (X : Dev nD → (cc0_stg0_0 : Ref sig .tc).ty.Contents (Elt F)) (W : Dev nD → (cc0_stg1_0 : Ref sig .tc).ty.Contents (Elt F))
variable (K : Dev nD × CI → ℕ) (c : Dev nD)

/-- The credit for one duty's worth on a cell of `c`. -/
abbrev C1 (ci : CI) : sProp 𝕄 := cred (tallyAt (cell c ci) () (amt ci))
/-- The cell's round is over. -/
abbrev Dn (ci : CI) : sProp 𝕄 := atPos ER (cell c ci) 1 ∅ 0

omit [FloatOps F] in
/-- Nothing of a cell waited for. -/
theorem ws_zero (ci : CI) : (atPos ER (cell c ci) 0 ∅ 0 : sProp 𝕄) ⊢ WS X W c ci 0 := by
  unfold WS
  rw [Nat.zero_mul]
  iintro H
  iexists ∅
  isplitr
  · ipureintro; exact Finset.empty_subset _
  isplitl [H]
  · iexact H
  · rw [bigSep_empty]; iempintro

/-- A wait for a cell's last duty. -/
theorem wp_fin {α : Type} {Q : α → sProp 𝕄} (l : List Item) (ci : CI) (j : ℕ) (hl : l.all (fun x => decide (lvC ci < lvC x.ci)) = true)
    (hk : (dut ci).card = j + 1)
    {w : TpuEff nD τ sig (Elt F) Λ₀ .tc PUnit}
    (hw : ∀ KK : PUnit → sProp 𝕄, wpE (defs₀ (F := F)) Variants.none (c : Thread nD τ) none Set.univ w KK = waitSpec (c : Thread nD τ) Set.univ (csem ci) (amt ci) KK)
    {kk : PUnit → Prog (TpuEff nD τ sig (Elt F) Λ₀ .tc) α} :
    iprop(recs X W K ∗ levAts L lv ∗ Due (F := F) c l ∗ WS X W c ci j ∗ C1 c ci)
      ⊢ iprop((iprop(Due (F := F) c l ∗ Dn c ci ∗ bigSep (dut ci) (fun d => pay X W c ci d)) -∗ wp frame (wpE (defs₀ (F := F)) Variants.none (c : Thread nD τ) none) Set.univ (kk ⟨⟩) Q) -∗ wp frame (wpE (defs₀ (F := F)) Variants.none (c : Thread nD τ) none) Set.univ (.op w kk) Q) :=
  wp_last X W K c l ci j (amt ci) hl (by rw [hk, Nat.succ_mul]) hw

/-! ### What finished cells hand over, piece by piece -/

omit [FloatOps F] in
theorem pay1 (ci : CI) (h : dut ci = {0}) : (bigSep (dut ci) (fun d => pay X W c ci d) : sProp 𝕄) = pay X W c ci 0 := by
  rw [h, bigSep_singleton]
omit [FloatOps F] in
theorem pay2 (ci : CI) (h : dut ci = {0, 1}) : (bigSep (dut ci) (fun d => pay X W c ci d) : sProp 𝕄) = iprop(pay X W c ci 0 ∗ pay X W c ci 1) := by
  rw [h, BI.bigSep_eq_bigSepL_of_eq [0, 1] (by decide) (by decide)]; rfl
omit [FloatOps F] in
theorem pay4 (ci : CI) (h : dut ci = {0, 1, 2, 3}) : (bigSep (dut ci) (fun d => pay X W c ci d) : sProp 𝕄)
    = iprop(pay X W c ci 0 ∗ pay X W c ci 1 ∗ pay X W c ci 2 ∗ pay X W c ci 3) := by
  rw [h, BI.bigSep_eq_bigSepL_of_eq [0, 1, 2, 3] (by decide) (by decide)]; rfl
omit [FloatOps F] in
/-- A family over the seven steps round the ring. -/
theorem sep7 (Φ : Fin 8 → sProp 𝕄) : (bigSep (Finset.univ.erase 0) Φ : sProp 𝕄) = iprop(Φ 1 ∗ Φ 2 ∗ Φ 3 ∗ Φ 4 ∗ Φ 5 ∗ Φ 6 ∗ Φ 7) := by
  rw [BI.bigSep_eq_bigSepL_of_eq [1, 2, 3, 4, 5, 6, 7] (by decide) (by decide)]; rfl
omit [FloatOps F] in
/-- A family over the nine buffers of a part and a stage. -/
theorem sep9 (Φ : Fin 3 × Fin 3 → sProp 𝕄) : (bigSep Finset.univ Φ : sProp 𝕄)
    = iprop(Φ (0, 0) ∗ Φ (1, 0) ∗ Φ (2, 0) ∗ Φ (0, 1) ∗ Φ (1, 1) ∗ Φ (2, 1) ∗ Φ (0, 2) ∗ Φ (1, 2) ∗ Φ (2, 2)) := by
  rw [BI.bigSep_univ_eq_bigSepL [(0, 0), (1, 0), (2, 0), (0, 1), (1, 1), (2, 1), (0, 2), (1, 2), (2, 2)] (by decide) (by decide)]; rfl

omit [FloatOps F] in
theorem halve {s : Shape} (m : Memref sig .tc .vmem s .fp8e5m2) (q : PosShare TreeShare) (V : s.Idx → Elt F .fp8e5m2) : (owns (c : Thread nD τ) m q V : sProp 𝕄)
    ⊢ iprop(owns (c : Thread nD τ) m q.left V ∗ owns (c : Thread nD τ) m q.right V) := (owns_halves (c : Thread nD τ) m q V).1
omit [FloatOps F] in
theorem unhalve {s : Shape} (m : Memref sig .tc .vmem s .fp8e5m2) (q : PosShare TreeShare) (V : s.Idx → Elt F .fp8e5m2) :
    iprop(owns (c : Thread nD τ) m q.left V ∗ owns (c : Thread nD τ) m q.right V) ⊢ (owns (c : Thread nD τ) m q V : sProp 𝕄) := (owns_halves (c : Thread nD τ) m q V).2
omit [FloatOps F] in
/-- A piece in three shares: for the copies of the two later stages, and for the loads. -/
theorem split3 {s : Shape} (m : Memref sig .tc .vmem s .fp8e5m2) (V : s.Idx → Elt F .fp8e5m2) : (owns (c : Thread nD τ) m fullShare V : sProp 𝕄)
    ⊢ iprop(owns (c : Thread nD τ) m fullShare.left.left V ∗ owns (c : Thread nD τ) m fullShare.left.right V ∗ owns (c : Thread nD τ) m fullShare.right V) := by
  iintro H
  ihave ⟨Hl, Hr⟩ := halve c m fullShare V $$ H
  ihave ⟨H1, H2⟩ := halve c m fullShare.left V $$ Hl
  isplitl [H1]; · iexact H1
  isplitl [H2] <;> iassumption
omit [FloatOps F] in
theorem join3 {s : Shape} (m : Memref sig .tc .vmem s .fp8e5m2) (V : s.Idx → Elt F .fp8e5m2) :
    iprop(owns (c : Thread nD τ) m fullShare.left.left V ∗ owns (c : Thread nD τ) m fullShare.left.right V ∗ owns (c : Thread nD τ) m fullShare.right V)
      ⊢ (owns (c : Thread nD τ) m fullShare V : sProp 𝕄) := by
  iintro ⟨H1, H2, Hr⟩
  iapply unhalve c m fullShare V
  isplitl [H1 H2]
  · iapply unhalve c m fullShare.left V
    isplitl [H1] <;> iassumption
  · iexact Hr
omit [FloatOps F] in
/-- The second operand in four shares. -/
theorem split4 {s : Shape} (m : Memref sig .tc .vmem s .fp8e5m2) (V : s.Idx → Elt F .fp8e5m2) : (owns (c : Thread nD τ) m fullShare V : sProp 𝕄)
    ⊢ iprop(owns (c : Thread nD τ) m (qs 0) V ∗ owns (c : Thread nD τ) m (qs 1) V ∗ owns (c : Thread nD τ) m (qs 2) V ∗ owns (c : Thread nD τ) m (qs 3) V) := by
  iintro H
  ihave ⟨H1, H2, Hr⟩ := split3 c m V $$ H
  ihave ⟨H3, H4⟩ := halve c m fullShare.right V $$ Hr
  isplitl [H1]; · iexact H1
  isplitl [H2]; · iexact H2
  isplitl [H3]; · iexact H3
  iexact H4
omit [FloatOps F] in
theorem join4 {s : Shape} (m : Memref sig .tc .vmem s .fp8e5m2) (V : s.Idx → Elt F .fp8e5m2) :
    iprop(owns (c : Thread nD τ) m (qs 0) V ∗ owns (c : Thread nD τ) m (qs 1) V ∗ owns (c : Thread nD τ) m (qs 2) V ∗ owns (c : Thread nD τ) m (qs 3) V)
      ⊢ (owns (c : Thread nD τ) m fullShare V : sProp 𝕄) := by
  iintro ⟨H1, H2, H3, H4⟩
  iapply join3 c m V
  isplitl [H1]; · iexact H1
  isplitl [H2]; · iexact H2
  iapply unhalve c m fullShare.right V
  isplitl [H3]; · iexact H3
  iexact H4

/-- Piece `r` of part `p`'s buffer of stage `t`, from where its contents come, at share `q`. -/
abbrev hasB (p t : Fin 3) (r : Fin 8) (q : PosShare TreeShare) : sProp 𝕄 := owns (c : Thread nD τ) (bM p t r) q (wpart W p (px c (rel p t r)))
/-- Part `p` of the device's own second operand, at the `i`-th share. -/
abbrev hasW (p : Fin 3) (i : Fin 4) : sProp 𝕄 := owns (c : Thread nD τ) (wP p) (qs i) (wpart W p c)

end Steps

section Curried

variable (X : Dev nD → (cc0_stg0_0 : Ref sig .tc).ty.Contents (Elt F)) (W : Dev nD → (cc0_stg1_0 : Ref sig .tc).ty.Contents (Elt F))
variable (K : Dev nD × CI → ℕ) (c : Dev nD)

/-- What every step may consult: the cells' record and the levels. -/
def ctx : sProp 𝕄 := iprop(recs X W K ∗ levAts L lv)

omit [FloatOps F] in
instance ctx_persistent : BI.Persistent (ctx (F := F) X W K) := by unfold ctx; infer_instance

/-- The body's programs on core `c`. -/
abbrev wpc {α : Type} (p : Prog (TpuEff nD τ sig (Elt F) Λ₀ .tc) α) (Q : α → sProp 𝕄) : sProp 𝕄 :=
  wp frame (wpE (defs₀ (F := F)) Variants.none (c : Thread nD τ) none) Set.univ p Q

/-- A wait for part of a cell's duties. -/
theorem st_part {α : Type} {Q : α → sProp 𝕄} (l : List Item) (ci : CI) (j : ℕ) (hl : l.all (fun x => decide (lvC ci < lvC x.ci)) = true)
    {w : TpuEff nD τ sig (Elt F) Λ₀ .tc PUnit}
    (hw : ∀ KK : PUnit → sProp 𝕄, wpE (defs₀ (F := F)) Variants.none (c : Thread nD τ) none Set.univ w KK = waitSpec (c : Thread nD τ) Set.univ (csem ci) (amt ci) KK)
    {kk : PUnit → Prog (TpuEff nD τ sig (Elt F) Λ₀ .tc) α} :
    ctx X W K ⊢ iprop(Due (F := F) c l -∗ WS X W c ci j -∗ C1 c ci
      -∗ (Due (F := F) c l -∗ WS X W c ci (j + 1) -∗ wpc c (kk ⟨⟩) Q) -∗ wpc c (.op w kk) Q) := by
  unfold ctx
  iintro ⟨#HR, #HL⟩ HD HW HC Hk
  iapply (wp_part X W K c l ci j hl hw) $$ [HD HW HC]
  · isplitr; · iexact HR
    isplitr; · iexact HL
    isplitl [HD]; · iexact HD
    isplitl [HW] <;> iassumption
  iintro ⟨HD, HW⟩
  iapply Hk $$ HD HW

/-- A wait for the last of a cell's duties, each of which is paid at once. -/
theorem st_fin {α : Type} {Q : α → sProp 𝕄} (l : List Item) (ci : CI) (j : ℕ) (hl : l.all (fun x => decide (lvC ci < lvC x.ci)) = true)
    (hk : (dut ci).card = j + 1) {P : sProp 𝕄} (hP : (bigSep (dut ci) (fun d => pay X W c ci d) : sProp 𝕄) = P)
    {w : TpuEff nD τ sig (Elt F) Λ₀ .tc PUnit}
    (hw : ∀ KK : PUnit → sProp 𝕄, wpE (defs₀ (F := F)) Variants.none (c : Thread nD τ) none Set.univ w KK = waitSpec (c : Thread nD τ) Set.univ (csem ci) (amt ci) KK)
    {kk : PUnit → Prog (TpuEff nD τ sig (Elt F) Λ₀ .tc) α} :
    ctx X W K ⊢ iprop(Due (F := F) c l -∗ WS X W c ci j -∗ C1 c ci
      -∗ (Due (F := F) c l -∗ Dn c ci -∗ P -∗ wpc c (kk ⟨⟩) Q) -∗ wpc c (.op w kk) Q) := by
  subst hP
  unfold ctx
  iintro ⟨#HR, #HL⟩ HD HW HC Hk
  iapply (wp_fin X W K c l ci j hl hk hw) $$ [HD HW HC]
  · isplitr; · iexact HR
    isplitr; · iexact HL
    isplitl [HD]; · iexact HD
    isplitl [HW] <;> iassumption
  iintro ⟨HD, HW, HP⟩
  iapply Hk $$ HD HW HP

/-- A wait for all seven of a regular cell's units. -/
theorem st_fin7 {α : Type} {Q : α → sProp 𝕄} (l : List Item) (ci : CI) (hl : l.all (fun x => decide (lvC ci < lvC x.ci)) = true)
    (hk : 0 * amt ci + 7 = (dut ci).card * amt ci)
    {w : TpuEff nD τ sig (Elt F) Λ₀ .tc PUnit}
    (hw : ∀ KK : PUnit → sProp 𝕄, wpE (defs₀ (F := F)) Variants.none (c : Thread nD τ) none Set.univ w KK = waitSpec (c : Thread nD τ) Set.univ (csem ci) 7 KK)
    {kk : PUnit → Prog (TpuEff nD τ sig (Elt F) Λ₀ .tc) α} :
    ctx X W K ⊢ iprop(Due (F := F) c l -∗ WS X W c ci 0 -∗ cred (tallyAt (cell c ci) () 7)
      -∗ (Due (F := F) c l -∗ Dn c ci -∗ bigSep (dut ci) (fun d => pay X W c ci d) -∗ wpc c (kk ⟨⟩) Q) -∗ wpc c (.op w kk) Q) := by
  unfold ctx
  iintro ⟨#HR, #HL⟩ HD HW HC Hk
  iapply (wp_last X W K c l ci 0 7 hl hk hw) $$ [HD HW HC]
  · isplitr; · iexact HR
    isplitr; · iexact HL
    isplitl [HD]; · iexact HD
    isplitl [HW] <;> iassumption
  iintro ⟨HD, HW, HP⟩
  iapply Hk $$ HD HW HP

/-- A signal of one unit of a regular cell. -/
theorem st_sig {α : Type} {Q : α → sProp 𝕄} (l l' : List Item) (ci : CI) (d : Fin 8) (hx : l = ⟨ci, d, .sh d, none⟩ :: l')
    {n : Dev nD} (hn : n = sh c d) {sem : Sem sig} (hsem : SemLoc.reg sem = csem ci) (hd : d ∈ dut ci) (hm : amt ci = 1)
    {kk : PUnit → Prog (TpuEff nD τ sig (Elt F) Λ₀ .tc) α} :
    ctx X W K ⊢ iprop(Due (F := F) c l -∗ pay X W (sh c d) ci d -∗ (Due (F := F) c l' -∗ wpc c (kk ⟨⟩) Q)
      -∗ wpc c (.op (.semSignal (n : Thread nD τ) sem 1) kk) Q) := by
  unfold ctx
  iintro ⟨#HR, #HL⟩ HD HP Hk
  iapply (wp_sig X W K c l l' ci d (.sh d) hx hn hsem hd hm) $$ [HD HP]
  · isplitr; · iexact HR
    isplitl [HD]; · iexact HD
    iexact HP
  iexact Hk

/-- A copy of a row block to the device `d` on. -/
theorem st_cpyA {α : Type} {Q : α → sProp 𝕄} (l l' : List Item) (d : Fin 8) (hd : d ≠ 0) (hx : l = ⟨.ra d, 0, .sh d, some (.sa d)⟩ :: l')
    {n : Dev nD} (hn : n = sh c d) {src dst : Memref sig .tc .vmem S512x512 .fp8e5m2} (hs : src = xS (sh c d)) (hdt : dst = xrB c)
    {hsc : dst.view.ref.isScScratch = false} {sS sR : SemLoc sig} (hsS : sS = csem (.sa d)) (hsR : sR = csem (.ra d))
    {hsrc : src.view.WordExact} {hdst : dst.view.WordExact} {hsem : DmaTarget.Typed .vmem sR (.remote (n : Thread nD τ) dst sS hsc)}
    {kk : PUnit → Prog (TpuEff nD τ sig (Elt F) Λ₀ .tc) α} :
    ctx X W K ⊢ iprop(Due (F := F) c l -∗ owns (c : Thread nD τ) (xS (sh c d)) fullShare (xrow X c (sh c d))
      -∗ (∃ V', owns ((sh c d : Dev nD) : Thread nD τ) (xrB c) fullShare V')
      -∗ (Due (F := F) c l' -∗ C1 c (.sa d) -∗ wpc c (kk ⟨⟩) Q)
      -∗ wpc c (.op (.enqueueDma src (.remote (n : Thread nD τ) dst sS hsc) sR hsrc hdst hsem) kk) Q) := by
  have hm : (0 : Fin 8) ∈ dut (.sa d) := by
    show (0 : Fin 8) ∈ (if d = 0 then (∅ : Finset (Fin 8)) else {0})
    rw [if_neg hd]; exact Finset.mem_singleton_self _
  have hm' : (0 : Fin 8) ∈ dut (.ra d) := by
    show (0 : Fin 8) ∈ (if d = 0 then (∅ : Finset (Fin 8)) else {0})
    rw [if_neg hd]; exact Finset.mem_singleton_self _
  unfold ctx
  iintro ⟨#HR, #HL⟩ HD HS HT Hk
  iapply (wp_cpy X W K c l l' (.ra d) (.sa d) 0 (.sh d) hx hn hs hdt hsS hsR (NA_xr c) rfl hm hm'
    (q := fullShare) (V := xrow X c (sh c d)) ent_rfl
    (by
      show _ ⊢ owns ((sh c d : Dev nD) : Thread nD τ) (xrB (bk (sh c d) d)) fullShare (xrow X (bk (sh c d) d) (sh c d))
      rw [bk_sh]; exact ent_rfl)) $$ [HD HS HT]
  · isplitr; · iexact HR
    isplitl [HD]; · iexact HD
    isplitl [HS]; · iexact HS
    iexact HT
  iintro ⟨HD, HC⟩
  iapply Hk $$ HD HC

/-- A copy of piece `r` of stage `t` of part `p` to the stage's partner. -/
theorem st_cpyB {α : Type} {Q : α → sProp 𝕄} (l l' : List Item) (p t : Fin 3) (r : Fin 8) (hr : r.val < 2 ^ t.val) (hx : l = it p t r :: l')
    {n : Dev nD} (hn : n = px c (mask p t)) {src dst src' : Memref sig .tc .vmem (Sp p) .fp8e5m2} (hs : src = src') (hdt : dst = bM p t r)
    {hsc : dst.view.ref.isScScratch = false} {sS sR : SemLoc sig} (hsS : sS = csem (.ss p t)) (hsR : sR = csem (.rs p t))
    {hsrc : src.view.WordExact} {hdst : dst.view.WordExact} {hsem : DmaTarget.Typed .vmem sR (.remote (n : Thread nD τ) dst sS hsc)}
    {q : PosShare TreeShare} {o : Dev nD} (ho : o = px (px c (mask p t)) (rel p t r))
    (hp : owns (c : Thread nD τ) src' q (wpart W p o) ⊢ (srcPay W c p t r : sProp 𝕄))
    {kk : PUnit → Prog (TpuEff nD τ sig (Elt F) Λ₀ .tc) α} :
    ctx X W K ⊢ iprop(Due (F := F) c l -∗ owns (c : Thread nD τ) src' q (wpart W p o)
      -∗ (∃ V', owns ((px c (mask p t) : Dev nD) : Thread nD τ) (bM p t r) fullShare V')
      -∗ (Due (F := F) c l' -∗ C1 c (.ss p t) -∗ wpc c (kk ⟨⟩) Q)
      -∗ wpc c (.op (.enqueueDma src (.remote (n : Thread nD τ) dst sS hsc) sR hsrc hdst hsem) kk) Q) := by
  have hm : r ∈ dut (.ss p t) := Finset.mem_filter.mpr ⟨Finset.mem_univ _, hr⟩
  have hm' : r ∈ dut (.rs p t) := Finset.mem_filter.mpr ⟨Finset.mem_univ _, hr⟩
  unfold ctx
  iintro ⟨#HR, #HL⟩ HD HS HT Hk
  iapply (wp_cpy X W K c l l' (.rs p t) (.ss p t) r (.px (mask p t)) hx hn hs hdt hsS hsR (NP_b p t r) rfl hm hm'
    (q := q) (V := wpart W p o) hp (by rw [ho]; exact ent_rfl)) $$ [HD HS HT]
  · isplitr; · iexact HR
    isplitl [HD]; · iexact HD
    isplitl [HS]; · iexact HS
    iexact HT
  iintro ⟨HD, HC⟩
  iapply Hk $$ HD HC

end Curried

end Cert.KernelIdeal.Hyper

end
-- ==== Proof.Units.lean ====
/-
# `01_k` — waits in a row and a part's products
-/
module

public import proofs.«01_k».proof.Proof.Steps

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Units

variable (X : Dev nD → (cc0_stg0_0 : Ref sig .tc).ty.Contents (Elt F)) (W : Dev nD → (cc0_stg1_0 : Ref sig .tc).ty.Contents (Elt F))
variable (K : Dev nD × CI → ℕ) (c : Dev nD)

/-! ### What the cells hand over, named -/

omit [FloatOps F] in
theorem payR0 (p : Fin 3) : (bigSep (dut (.rs p 0)) (fun d => pay X W c (.rs p 0) d) : sProp 𝕄) = hasB W c p 0 0 fullShare := pay1 X W c _ rfl
omit [FloatOps F] in
theorem payR1 (p : Fin 3) : (bigSep (dut (.rs p 1)) (fun d => pay X W c (.rs p 1) d) : sProp 𝕄) = iprop(hasB W c p 1 0 fullShare ∗ hasB W c p 1 1 fullShare) := pay2 X W c _ (show dut (.rs 0 1) = {0, 1} by decide)
omit [FloatOps F] in
theorem payR2 (p : Fin 3) : (bigSep (dut (.rs p 2)) (fun d => pay X W c (.rs p 2) d) : sProp 𝕄)
    = iprop(hasB W c p 2 0 fullShare ∗ hasB W c p 2 1 fullShare ∗ hasB W c p 2 2 fullShare ∗ hasB W c p 2 3 fullShare) := pay4 X W c _ (show dut (.rs 0 2) = {0, 1, 2, 3} by decide)
omit [FloatOps F] in
theorem payS0 (p : Fin 3) : (bigSep (dut (.ss p 0)) (fun d => pay X W c (.ss p 0) d) : sProp 𝕄) = hasW W c p 0 := pay1 X W c _ rfl
omit [FloatOps F] in
theorem payS1 (p : Fin 3) : (bigSep (dut (.ss p 1)) (fun d => pay X W c (.ss p 1) d) : sProp 𝕄) = iprop(hasW W c p 1 ∗ hasB W c p 0 0 fullShare.left.left) := pay2 X W c _ (show dut (.ss 0 1) = {0, 1} by decide)
omit [FloatOps F] in
theorem payS2 (p : Fin 3) : (bigSep (dut (.ss p 2)) (fun d => pay X W c (.ss p 2) d) : sProp 𝕄)
    = iprop(hasW W c p 2 ∗ hasB W c p 0 0 fullShare.left.right ∗ hasB W c p 1 0 fullShare.left ∗ hasB W c p 1 1 fullShare.left) := pay4 X W c _ (show dut (.ss 0 2) = {0, 1, 2, 3} by decide)
omit [FloatOps F] in
theorem paySa (d : Fin 8) (hd : dut (.sa d) = {0}) : (bigSep (dut (.sa d)) (fun e => pay X W c (.sa d) e) : sProp 𝕄)
    = owns (c : Thread nD τ) (xS (sh c d)) fullShare (xrow X c (sh c d)) := pay1 X W c _ hd
omit [FloatOps F] in
theorem payRa (d : Fin 8) (hd : dut (.ra d) = {0}) : (bigSep (dut (.ra d)) (fun e => pay X W c (.ra d) e) : sProp 𝕄)
    = owns (c : Thread nD τ) (xrB (bk c d)) fullShare (xrow X (bk c d) c) := pay1 X W c _ hd

/-! ### Waits in a row on one cell -/

/-- Two. -/
theorem st_w2 {α : Type} {Q : α → sProp 𝕄} (l : List Item) (ci : CI) (hl : l.all (fun x => decide (lvC ci < lvC x.ci)) = true)
    (hk : (dut ci).card = 2) {P : sProp 𝕄} (hP : (bigSep (dut ci) (fun d => pay X W c ci d) : sProp 𝕄) = P)
    {w1 w2 : TpuEff nD τ sig (Elt F) Λ₀ .tc PUnit}
    (h1 : ∀ KK : PUnit → sProp 𝕄, wpE (defs₀ (F := F)) Variants.none (c : Thread nD τ) none Set.univ w1 KK = waitSpec (c : Thread nD τ) Set.univ (csem ci) (amt ci) KK)
    (h2 : ∀ KK : PUnit → sProp 𝕄, wpE (defs₀ (F := F)) Variants.none (c : Thread nD τ) none Set.univ w2 KK = waitSpec (c : Thread nD τ) Set.univ (csem ci) (amt ci) KK)
    {kk : PUnit → Prog (TpuEff nD τ sig (Elt F) Λ₀ .tc) α} :
    ctx X W K ⊢ iprop(Due (F := F) c l -∗ WS X W c ci 0 -∗ C1 c ci -∗ C1 c ci
      -∗ (Due (F := F) c l -∗ Dn c ci -∗ P -∗ wpc c (kk ⟨⟩) Q) -∗ wpc c (.op w1 fun _ => .op w2 kk) Q) := by
  iintro #HC HD HW C1 C2 Hk
  iapply (st_part X W K c l ci 0 hl h1) $$ HC HD HW C1
  iintro HD HW
  iapply (st_fin X W K c l ci 1 hl hk hP h2) $$ HC HD HW C2 Hk

/-- Four. -/
theorem st_w4 {α : Type} {Q : α → sProp 𝕄} (l : List Item) (ci : CI) (hl : l.all (fun x => decide (lvC ci < lvC x.ci)) = true)
    (hk : (dut ci).card = 4) {P : sProp 𝕄} (hP : (bigSep (dut ci) (fun d => pay X W c ci d) : sProp 𝕄) = P)
    {w1 w2 w3 w4 : TpuEff nD τ sig (Elt F) Λ₀ .tc PUnit}
    (h1 : ∀ KK : PUnit → sProp 𝕄, wpE (defs₀ (F := F)) Variants.none (c : Thread nD τ) none Set.univ w1 KK = waitSpec (c : Thread nD τ) Set.univ (csem ci) (amt ci) KK)
    (h2 : ∀ KK : PUnit → sProp 𝕄, wpE (defs₀ (F := F)) Variants.none (c : Thread nD τ) none Set.univ w2 KK = waitSpec (c : Thread nD τ) Set.univ (csem ci) (amt ci) KK)
    (h3 : ∀ KK : PUnit → sProp 𝕄, wpE (defs₀ (F := F)) Variants.none (c : Thread nD τ) none Set.univ w3 KK = waitSpec (c : Thread nD τ) Set.univ (csem ci) (amt ci) KK)
    (h4 : ∀ KK : PUnit → sProp 𝕄, wpE (defs₀ (F := F)) Variants.none (c : Thread nD τ) none Set.univ w4 KK = waitSpec (c : Thread nD τ) Set.univ (csem ci) (amt ci) KK)
    {kk : PUnit → Prog (TpuEff nD τ sig (Elt F) Λ₀ .tc) α} :
    ctx X W K ⊢ iprop(Due (F := F) c l -∗ WS X W c ci 0 -∗ C1 c ci -∗ C1 c ci -∗ C1 c ci -∗ C1 c ci
      -∗ (Due (F := F) c l -∗ Dn c ci -∗ P -∗ wpc c (kk ⟨⟩) Q) -∗ wpc c (.op w1 fun _ => .op w2 fun _ => .op w3 fun _ => .op w4 kk) Q) := by
  iintro #HC HD HW C1 C2 C3 C4 Hk
  iapply (st_part X W K c l ci 0 hl h1) $$ HC HD HW C1
  iintro HD HW
  iapply (st_part X W K c l ci 1 hl h2) $$ HC HD HW C2
  iintro HD HW
  iapply (st_part X W K c l ci 2 hl h3) $$ HC HD HW C3
  iintro HD HW
  iapply (st_fin X W K c l ci 3 hl hk hP h4) $$ HC HD HW C4 Hk

/-! ### A part's two halves, multiplied -/

/-- The load of a block of the gathered rows and the two products of a part's halves by it, each added onto its strip. -/
theorem st_mm {α : Type} {Q : α → sProp 𝕄} (o : Dev nD) {off : Fin 2 → ℕ} {inb : ∀ a, off a + S512x512.size a ≤ S512x4096.size a} (ho : off = ![0, 512 * o.val])
    {hl : xrM.view.LoadsAt (Rect.unit (s := S512x4096) off S512x512.size inb)}
    {s : Shape} {m0 m1 P : Memref sig .tc .vmem s .fp8e5m2} {q : PosShare TreeShare} {V : s.Idx → Elt F .fp8e5m2}
    (hP0 : (owns (c : Thread nD τ) m0 q V : sProp 𝕄) = owns (c : Thread nD τ) P q V)
    (hP1 : (owns (c : Thread nD τ) m1 q V : sProp 𝕄) = owns (c : Thread nD τ) P q V) {r0 r1 : Rect s}
    {o0 w0 : Fin 2 → ℕ} {i0 : ∀ a, o0 a + w0 a ≤ S512x8192.size a}
    {o1 w1 : Fin 2 → ℕ} {i1 : ∀ a, o1 a + w1 a ≤ S512x8192.size a}
    {g0 : (S512x512.Idx → Elt F .fp8e5m2) → (r0.shape.Idx → Elt F .fp8e5m2) → (Shape.Idx ⟨2, w0⟩ → Elt F .f32) → Shape.Idx ⟨2, w0⟩ → Elt F .f32}
    {g1 : (S512x512.Idx → Elt F .fp8e5m2) → (r1.shape.Idx → Elt F .fp8e5m2) → (Shape.Idx ⟨2, w1⟩ → Elt F .f32) → Shape.Idx ⟨2, w1⟩ → Elt F .f32}
    {hl0 : m0.view.LoadsAt r0} {h1 h2 : oM.view.LoadsAt (Rect.unit (s := S512x8192) o0 w0 i0)}
    {hx0 : (oM.access (Rect.unit (s := S512x8192) o0 w0 i0)).Stores Finset.univ} {hm0 : (Finset.univ : Finset (Shape.Idx ⟨2, w0⟩)) = Finset.univ ∨ ∀ a, (Rect.unit (s := S512x8192) o0 w0 i0).stride a = 1}
    {hl1 : m1.view.LoadsAt r1} {h3 h4 : oM.view.LoadsAt (Rect.unit (s := S512x8192) o1 w1 i1)}
    {hx1 : (oM.access (Rect.unit (s := S512x8192) o1 w1 i1)).Stores Finset.univ} {hm1 : (Finset.univ : Finset (Shape.Idx ⟨2, w1⟩)) = Finset.univ ∨ ∀ a, (Rect.unit (s := S512x8192) o1 w1 i1).stride a = 1}
    {A0 : Shape.Idx ⟨2, w0⟩ → Elt F .f32} {A1 : Shape.Idx ⟨2, w1⟩ → Elt F .f32}
    {kk : PUnit → Prog (TpuEff nD τ sig (Elt F) Λ₀ .tc) α} :
    xrAll X c ⊢ iprop(owns (c : Thread nD τ) P q V -∗ owns (c : Thread nD τ) (oM.slice (Rect.unit (s := S512x8192) o0 w0 i0) (fun _ => rfl)) fullShare A0
      -∗ owns (c : Thread nD τ) (oM.slice (Rect.unit (s := S512x8192) o1 w1 i1) (fun _ => rfl)) fullShare A1
      -∗ (xrAll X c -∗ owns (c : Thread nD τ) P q V
          -∗ owns (c : Thread nD τ) (oM.slice (Rect.unit (s := S512x8192) o0 w0 i0) (fun _ => rfl)) fullShare (g0 (xrow X o c) (fun j => V (r0.emb j)) A0)
          -∗ owns (c : Thread nD τ) (oM.slice (Rect.unit (s := S512x8192) o1 w1 i1) (fun _ => rfl)) fullShare (g1 (xrow X o c) (fun j => V (r1.emb j)) A1)
          -∗ wpc c (kk ⟨⟩) Q)
      -∗ wpc c (.op (.load xrM (Rect.unit (s := S512x4096) off S512x512.size inb) hl) fun x =>
          .op (.load m0 r0 hl0) fun a => .op (.load oM (Rect.unit (s := S512x8192) o0 w0 i0) h1) fun b => .op (.load oM (Rect.unit (s := S512x8192) o0 w0 i0) h2) fun _ =>
            .op (.store oM (Rect.unit (s := S512x8192) o0 w0 i0) (g0 x a b) Finset.univ hx0 hm0) fun _ =>
          .op (.load m1 r1 hl1) fun a => .op (.load oM (Rect.unit (s := S512x8192) o1 w1 i1) h3) fun b => .op (.load oM (Rect.unit (s := S512x8192) o1 w1 i1) h4) fun _ =>
            .op (.store oM (Rect.unit (s := S512x8192) o1 w1 i1) (g1 x a b) Finset.univ hx1 hm1) kk) Q) := by
  iintro HX HP O0 O1 Hk
  iapply (wp_ldxr X c o ho) $$ HX
  iintro HX
  iapply (wp_mm c hP0 (g0 (xrow X o c))) $$ [HP O0]
  · isplitl [HP]; · iexact HP
    iexact O0
  iintro ⟨HP, O0⟩
  iapply (wp_mm c hP1 (g1 (xrow X o c))) $$ [HP O1]
  · isplitl [HP]; · iexact HP
    iexact O1
  iintro ⟨HP, O1⟩
  iapply Hk $$ HX HP O0 O1

/-- The first products, stored. -/
theorem st_mm0 {α : Type} {Q : α → sProp 𝕄} (o : Dev nD) {off : Fin 2 → ℕ} {inb : ∀ a, off a + S512x512.size a ≤ S512x4096.size a} (ho : off = ![0, 512 * o.val])
    {hl : xrM.view.LoadsAt (Rect.unit (s := S512x4096) off S512x512.size inb)}
    {s : Shape} {m0 m1 P : Memref sig .tc .vmem s .fp8e5m2} {q : PosShare TreeShare} {V : s.Idx → Elt F .fp8e5m2}
    (hP0 : (owns (c : Thread nD τ) m0 q V : sProp 𝕄) = owns (c : Thread nD τ) P q V)
    (hP1 : (owns (c : Thread nD τ) m1 q V : sProp 𝕄) = owns (c : Thread nD τ) P q V) {r0 r1 : Rect s}
    {o0 w0 : Fin 2 → ℕ} {i0 : ∀ a, o0 a + w0 a ≤ S512x8192.size a}
    {o1 w1 : Fin 2 → ℕ} {i1 : ∀ a, o1 a + w1 a ≤ S512x8192.size a}
    {g0 : (S512x512.Idx → Elt F .fp8e5m2) → (r0.shape.Idx → Elt F .fp8e5m2) → Shape.Idx ⟨2, w0⟩ → Elt F .f32}
    {g1 : (S512x512.Idx → Elt F .fp8e5m2) → (r1.shape.Idx → Elt F .fp8e5m2) → Shape.Idx ⟨2, w1⟩ → Elt F .f32}
    {hl0 : m0.view.LoadsAt r0} {h1 : oM.view.LoadsAt (Rect.unit (s := S512x8192) o0 w0 i0)}
    {hx0 : (oM.access (Rect.unit (s := S512x8192) o0 w0 i0)).Stores Finset.univ} {hm0 : (Finset.univ : Finset (Shape.Idx ⟨2, w0⟩)) = Finset.univ ∨ ∀ a, (Rect.unit (s := S512x8192) o0 w0 i0).stride a = 1}
    {hl1 : m1.view.LoadsAt r1} {h3 : oM.view.LoadsAt (Rect.unit (s := S512x8192) o1 w1 i1)}
    {hx1 : (oM.access (Rect.unit (s := S512x8192) o1 w1 i1)).Stores Finset.univ} {hm1 : (Finset.univ : Finset (Shape.Idx ⟨2, w1⟩)) = Finset.univ ∨ ∀ a, (Rect.unit (s := S512x8192) o1 w1 i1).stride a = 1}
    {kk : PUnit → Prog (TpuEff nD τ sig (Elt F) Λ₀ .tc) α} :
    xrAll X c ⊢ iprop(owns (c : Thread nD τ) P q V -∗ (∃ A, owns (c : Thread nD τ) (oM.slice (Rect.unit (s := S512x8192) o0 w0 i0) (fun _ => rfl)) fullShare A)
      -∗ (∃ A, owns (c : Thread nD τ) (oM.slice (Rect.unit (s := S512x8192) o1 w1 i1) (fun _ => rfl)) fullShare A)
      -∗ (xrAll X c -∗ owns (c : Thread nD τ) P q V
          -∗ owns (c : Thread nD τ) (oM.slice (Rect.unit (s := S512x8192) o0 w0 i0) (fun _ => rfl)) fullShare (g0 (xrow X o c) (fun j => V (r0.emb j)))
          -∗ owns (c : Thread nD τ) (oM.slice (Rect.unit (s := S512x8192) o1 w1 i1) (fun _ => rfl)) fullShare (g1 (xrow X o c) (fun j => V (r1.emb j)))
          -∗ wpc c (kk ⟨⟩) Q)
      -∗ wpc c (.op (.load xrM (Rect.unit (s := S512x4096) off S512x512.size inb) hl) fun x =>
          .op (.load m0 r0 hl0) fun a => .op (.load oM (Rect.unit (s := S512x8192) o0 w0 i0) h1) fun _ =>
            .op (.store oM (Rect.unit (s := S512x8192) o0 w0 i0) (g0 x a) Finset.univ hx0 hm0) fun _ =>
          .op (.load m1 r1 hl1) fun a => .op (.load oM (Rect.unit (s := S512x8192) o1 w1 i1) h3) fun _ =>
            .op (.store oM (Rect.unit (s := S512x8192) o1 w1 i1) (g1 x a) Finset.univ hx1 hm1) kk) Q) := by
  iintro HX HP ⟨%A0, O0⟩ ⟨%A1, O1⟩ Hk
  iapply (wp_ldxr X c o ho) $$ HX
  iintro HX
  iapply (wp_mm0 c hP0 (g0 (xrow X o c))) $$ [HP O0]
  · isplitl [HP]; · iexact HP
    iexact O0
  iintro ⟨HP, O0⟩
  iapply (wp_mm0 c hP1 (g1 (xrow X o c))) $$ [HP O1]
  · isplitl [HP]; · iexact HP
    iexact O1
  iintro ⟨HP, O1⟩
  iapply Hk $$ HX HP O0 O1

/-- A scaling of a slice of the output by a number. -/
theorem st_scale {α : Type} {Q : α → sProp 𝕄}
    {o w : Fin 2 → ℕ} {i : ∀ a, o a + w a ≤ S512x8192.size a}
    {g : (Shape.Idx ⟨2, w⟩ → Elt F .f32) → Shape.Idx ⟨2, w⟩ → Elt F .f32}
    {h1 h2 : oM.view.LoadsAt (Rect.unit (s := S512x8192) o w i)}
    {hx : (oM.access (Rect.unit (s := S512x8192) o w i)).Stores Finset.univ} {hm : (Finset.univ : Finset (Shape.Idx ⟨2, w⟩)) = Finset.univ ∨ ∀ a, (Rect.unit (s := S512x8192) o w i).stride a = 1}
    {A : Shape.Idx ⟨2, w⟩ → Elt F .f32}
    {kk : PUnit → Prog (TpuEff nD τ sig (Elt F) Λ₀ .tc) α} :
    owns (c : Thread nD τ) (oM.slice (Rect.unit (s := S512x8192) o w i) (fun _ => rfl)) fullShare A
      ⊢ iprop((owns (c : Thread nD τ) (oM.slice (Rect.unit (s := S512x8192) o w i) (fun _ => rfl)) fullShare (g A) -∗ wpc c (kk ⟨⟩) Q)
        -∗ wpc c (.op (.load oM (Rect.unit (s := S512x8192) o w i) h1) fun b => .op (.load oM (Rect.unit (s := S512x8192) o w i) h2) fun _ =>
            .op (.store oM (Rect.unit (s := S512x8192) o w i) (g b) Finset.univ hx hm) kk) Q) := by
  iintro HO Hk
  iapply (wp_ld c i rfl) $$ HO
  iintro HO
  iapply (wp_ld c i rfl) $$ HO
  iintro HO
  iapply (wp_st c i rfl) $$ HO
  iexact Hk

end Units

end Cert.KernelIdeal.Hyper

end
-- ==== Proof.Bar.lean ====
/-
# `01_k` — what the barrier passes round
-/
module

public import proofs.«01_k».proof.Proof.Units

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Bar

variable (c : Dev nD)

omit [FloatOps F] in
theorem sep_both {A : Type} (s : Finset A) (Φ Ψ : A → sProp 𝕄) :
    (bigSep s fun i => iprop(Φ i ∗ Ψ i) : sProp 𝕄) = iprop(bigSep s Φ ∗ bigSep s Ψ) := BI.bigSep_sep s Φ Ψ
omit [FloatOps F] in
theorem sep_more {A : Type} [DecidableEq A] {s : Finset A} {a : A} (ha : a ∉ s) (Φ : A → sProp 𝕄) :
    (bigSep (insert a s) Φ : sProp 𝕄) = iprop(Φ a ∗ bigSep s Φ) := BI.bigSep_insert ha
omit [FloatOps F] in
theorem sep_if {A : Type} (s : Finset A) (P : A → Prop) [DecidablePred P] (Φ : A → sProp 𝕄) :
    (bigSep s fun e => if P e then Φ e else iprop(emp) : sProp 𝕄) = bigSep (s.filter P) Φ := (BI.bigSep_filter s P Φ).symm

omit [FloatOps F] in
/-- Two nested families, the other way round. -/
theorem sep_swap {A B : Type} [DecidableEq A] [Fintype B] (s : Finset A) (Φ : A → B → sProp 𝕄) :
    (bigSep s fun a => bigSep Finset.univ fun b => Φ a b) = bigSep Finset.univ fun b => bigSep s fun a => Φ a b := by
  induction s using Finset.induction_on with
  | empty => simp only [bigSep_empty]; rw [BI.bigSep_emp_const]
  | insert a s ha ih =>
    rw [sep_more ha, ih, ← sep_both]
    exact bigSep_congr fun b _ => (sep_more ha fun a => Φ a b).symm

omit [FloatOps F] in
/-- A family with one member that is there. -/
theorem sep_hit {A : Type} [DecidableEq A] (s : Finset A) (P : A → Prop) [DecidablePred P] (Φ : A → sProp 𝕄) (d : A) (hd : d ∈ s) (hP : P d)
    (hu : ∀ e ∈ s, P e → e = d) : (bigSep s fun e => if P e then Φ e else iprop(emp) : sProp 𝕄) = Φ d := by
  rw [sep_if]
  have : s.filter P = {d} := by
    ext e
    rw [Finset.mem_filter, Finset.mem_singleton]
    exact ⟨fun h => hu e h.1 h.2, fun h => h ▸ ⟨hd, hP⟩⟩
  rw [this, bigSep_singleton]

theorem hit_in (c : Dev nD) (m : Fin 8) (hm : m ≠ 0) : ∃ d ∈ Finset.univ.erase (0 : Fin 8), px c m = bk c d ∧ (∀ e ∈ Finset.univ.erase (0 : Fin 8), px c m = bk c e → e = d) := by
  revert c m; decide
theorem hit_out (c : Dev nD) (m : Fin 8) (hm : m ≠ 0) : ∃ d ∈ Finset.univ.erase (0 : Fin 8), px (sh c d) m = c ∧ px c m = sh c d
    ∧ (∀ e ∈ Finset.univ.erase (0 : Fin 8), px (sh c e) m = c → e = d) := by
  revert c m; decide
theorem mask_ne (p t : Fin 3) : mask p t ≠ 0 := by revert p t; decide

omit [FloatOps F] in
/-- What the seven barrier signals bring. -/
theorem bar_in : (bigSep (Finset.univ.erase (0 : Fin 8)) fun d => give (F := F) (bk c d) c)
    = (iprop((bigSep (Finset.univ.erase (0 : Fin 8)) fun d => iprop(∃ V, owns ((bk c d : Dev nD) : Thread nD τ) (xrB c) fullShare V))
      ∗ bigSep Finset.univ fun pt : Fin 3 × Fin 3 => bAny (F := F) (px c (mask pt.1 pt.2)) pt.1 pt.2) : sProp 𝕄) := by
  unfold give
  rw [sep_both, sep_swap]
  congr 1
  refine bigSep_congr fun pt _ => ?_
  obtain ⟨d, hd, hP, hu⟩ := hit_in c (mask pt.1 pt.2) (mask_ne _ _)
  rw [sep_hit _ (fun d => px c (mask pt.1 pt.2) = bk c d) (fun d => bAny (F := F) (bk c d) pt.1 pt.2) d hd hP hu, ← hP]

omit [FloatOps F] in
/-- What the device's own seven barrier signals hand out. -/
theorem bar_out : (bigSep (Finset.univ.erase (0 : Fin 8)) fun d => give (F := F) c (sh c d))
    = (iprop((bigSep (Finset.univ.erase (0 : Fin 8)) fun d => iprop(∃ V, owns (c : Thread nD τ) (xrB (sh c d)) fullShare V))
      ∗ bigSep Finset.univ fun pt : Fin 3 × Fin 3 => bAny (F := F) c pt.1 pt.2) : sProp 𝕄) := by
  unfold give
  rw [sep_both, sep_swap]
  congr 1
  refine bigSep_congr fun pt _ => ?_
  obtain ⟨d, hd, hP, hP', hu⟩ := hit_out c (mask pt.1 pt.2) (mask_ne _ _)
  rw [sep_hit _ (fun d => px (sh c d) (mask pt.1 pt.2) = c) (fun d => bAny (F := F) c pt.1 pt.2) d hd hP hu]

omit [FloatOps F] in
theorem bk7 : bk c 7 = sh c 1 ∧ bk c 6 = sh c 2 ∧ bk c 5 = sh c 3 ∧ bk c 4 = sh c 4 ∧ bk c 3 = sh c 5 ∧ bk c 2 = sh c 6 ∧ bk c 1 = sh c 7 := by
  revert c; decide

variable (X : Dev nD → (cc0_stg0_0 : Ref sig .tc).ty.Contents (Elt F)) (W : Dev nD → (cc0_stg1_0 : Ref sig .tc).ty.Contents (Elt F))

omit [FloatOps F] in
/-- What the barrier's cell hands over, piece by piece. -/
theorem pay_bar : (bigSep (dut .bar) fun d => pay X W c .bar d)
    = (iprop(((∃ V, owns ((sh c 7 : Dev nD) : Thread nD τ) (xrB c) fullShare V) ∗ (∃ V, owns ((sh c 6 : Dev nD) : Thread nD τ) (xrB c) fullShare V)
        ∗ (∃ V, owns ((sh c 5 : Dev nD) : Thread nD τ) (xrB c) fullShare V) ∗ (∃ V, owns ((sh c 4 : Dev nD) : Thread nD τ) (xrB c) fullShare V)
        ∗ (∃ V, owns ((sh c 3 : Dev nD) : Thread nD τ) (xrB c) fullShare V) ∗ (∃ V, owns ((sh c 2 : Dev nD) : Thread nD τ) (xrB c) fullShare V)
        ∗ (∃ V, owns ((sh c 1 : Dev nD) : Thread nD τ) (xrB c) fullShare V))
      ∗ bAny (F := F) (px c (mask 0 0)) 0 0 ∗ bAny (F := F) (px c (mask 1 0)) 1 0 ∗ bAny (F := F) (px c (mask 2 0)) 2 0
      ∗ bAny (F := F) (px c (mask 0 1)) 0 1 ∗ bAny (F := F) (px c (mask 1 1)) 1 1 ∗ bAny (F := F) (px c (mask 2 1)) 2 1
      ∗ bAny (F := F) (px c (mask 0 2)) 0 2 ∗ bAny (F := F) (px c (mask 1 2)) 1 2 ∗ bAny (F := F) (px c (mask 2 2)) 2 2) : sProp 𝕄) := by
  have h : (bigSep (dut .bar) fun d => pay X W c .bar d) = (bigSep (Finset.univ.erase (0 : Fin 8)) fun d => give (F := F) (bk c d) c : sProp 𝕄) := rfl
  obtain ⟨h7, h6, h5, h4, h3, h2, h1⟩ := bk7 c
  rw [h, bar_in, sep7, sep9, h7, h6, h5, h4, h3, h2, h1]

omit [FloatOps F] in
theorem pay_bar_to (d : Fin 8) : give (F := F) c (sh c d) ⊢ (pay X W (sh c d) .bar d : sProp 𝕄) := by
  show give (F := F) c (sh c d) ⊢ give (bk (sh c d) d) (sh c d)
  rw [bk_sh]

theorem sliceX {off : Fin 2 → ℕ} {t : Dev nD} (ho : off = ![512 * t.val, 0]) {h : ∀ a, off a + S512x512.size a ≤ S4096x512.size a} :
    xM.slice (Rect.unit (s := S4096x512) off S512x512.size h) (fun _ => rfl) = xS t := by subst ho; rfl
theorem sliceR {off : Fin 2 → ℕ} {t : Dev nD} (ho : off = ![0, 512 * t.val]) {h : ∀ a, off a + S512x512.size a ≤ S512x4096.size a} :
    xrM.slice (Rect.unit (s := S512x4096) off S512x512.size h) (fun _ => rfl) = xrB t := by subst ho; rfl

omit [FloatOps F] in
theorem ent_eq {P P' : sProp 𝕄} (h : P = P') : P ⊢ P' := by subst h; exact ent_rfl

theorem pay1_id (v : FVec F S512x512 .fp8e5m2) : k0_pay1 v = v := by
  unfold k0_pay1
  exact funext fun i => congrArg v ((Shape.reshapeEquiv_self _ _).trans (Shape.reshapeEquiv_self _ _))

/-- The one element of a scalar operand. -/
abbrev sc (S : S1.Idx → Elt F .f32) : Elt F .f32 := S ((Rect.unit (s := S1) ![0] S1.size inb_S1_S1_0).emb (Shape.Idx.first (by decide)))

/-- Piece `r` of part `p`'s buffer of stage `t` on device `e`, with some contents. -/
abbrev anyB (e : Dev nD) (p t : Fin 3) (r : Fin 8) : sProp 𝕄 := iprop(∃ V, owns (e : Thread nD τ) (bM p t r) fullShare V)

omit [FloatOps F] in
theorem any0 (e : Dev nD) (p : Fin 3) : bAny (F := F) e p 0 = anyB e p 0 0 := rfl
omit [FloatOps F] in
theorem any1 (e : Dev nD) (p : Fin 3) : bAny (F := F) e p 1 = iprop(anyB e p 1 0 ∗ anyB e p 1 1) := rfl
omit [FloatOps F] in
theorem any2 (e : Dev nD) (p : Fin 3) : bAny (F := F) e p 2 = iprop(anyB e p 2 0 ∗ anyB e p 2 1 ∗ anyB e p 2 2 ∗ anyB e p 2 3) := rfl

end Bar

end Cert.KernelIdeal.Hyper

end
-- ==== Proof.SegA.lean ====
/-
# `01_k` — the barrier and the row blocks' copies
-/
module

public import proofs.«01_k».proof.Proof.Bar

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Seg

variable (X : Dev nD → (cc0_stg0_0 : Ref sig .tc).ty.Contents (Elt F)) (W : Dev nD → (cc0_stg1_0 : Ref sig .tc).ty.Contents (Elt F))
variable (K : Dev nD × CI → ℕ) (c : Dev nD)

abbrev xsM : Memref sig .tc .smem S1 .f32 := Memref.whole cc0_stg2_0
abbrev wsM : Memref sig .tc .smem S1 .f32 := Memref.whole cc0_stg3_0

/-- Row block `t` of the device's own first operand. -/
abbrev hasX (t : Dev nD) : sProp 𝕄 := owns (c : Thread nD τ) (xS t) fullShare (xrow X c t)
/-- The columns of device `e`'s gathered rows this device writes, with some contents. -/
abbrev anyR (e : Dev nD) : sProp 𝕄 := iprop(∃ V, owns (e : Thread nD τ) (xrB c) fullShare V)

/-- Parts 1 to 5: the barrier, the copies of the row blocks, the device's own row block stored, the scale read, the first copy of the second operand. -/
theorem segA {α : Type} {Q : α → sProp 𝕄} (SX SW : S1.Idx → Elt F .f32) (own : S512x512.Idx → Elt F .fp8e5m2)
    {kk : (Σ' (d0 : Dev nD) (v2 : BitVec 32) (v3 : Sems sig S_) (v24 : BitVec 32), BitVec 32) → (Σ' (v127 : F .f32) (v128 : BitVec 32), BitVec 32) → Prog (TpuEff nD τ sig (Elt F) Λ₀ .tc) α} :
    ctx X W K ⊢ iprop(Due (F := F) c items -∗ WS X W c .bar 0 -∗ cred (tallyAt (cell c .bar) () 7)
      -∗ give (F := F) c (sh c 1) -∗ give (F := F) c (sh c 2) -∗ give (F := F) c (sh c 3) -∗ give (F := F) c (sh c 4) -∗ give (F := F) c (sh c 5) -∗ give (F := F) c (sh c 6) -∗ give (F := F) c (sh c 7)
      -∗ hasX X c (sh c 1) -∗ hasX X c (sh c 2) -∗ hasX X c (sh c 3) -∗ hasX X c (sh c 4) -∗ hasX X c (sh c 5) -∗ hasX X c (sh c 6) -∗ hasX X c (sh c 7)
      -∗ hasX X c c -∗ owns (c : Thread nD τ) (xrB c) fullShare own
      -∗ owns (c : Thread nD τ) xsM fullShare SX -∗ owns (c : Thread nD τ) wsM fullShare SW -∗ hasW W c 0 0
      -∗ (Due (F := F) c (items.drop 15) -∗ Dn c .bar
        -∗ C1 c (.sa 1) -∗ C1 c (.sa 2) -∗ C1 c (.sa 3) -∗ C1 c (.sa 4) -∗ C1 c (.sa 5) -∗ C1 c (.sa 6) -∗ C1 c (.sa 7) -∗ C1 c (.ss 0 0)
        -∗ hasX X c c -∗ owns (c : Thread nD τ) (xrB c) fullShare (xrow X c c) -∗ owns (c : Thread nD τ) xsM fullShare SX -∗ owns (c : Thread nD τ) wsM fullShare SW
        -∗ bAny (F := F) (px c (mask 1 0)) 1 0 -∗ bAny (F := F) (px c (mask 2 0)) 2 0
        -∗ bAny (F := F) (px c (mask 0 1)) 0 1 -∗ bAny (F := F) (px c (mask 1 1)) 1 1 -∗ bAny (F := F) (px c (mask 2 1)) 2 1
        -∗ bAny (F := F) (px c (mask 0 2)) 0 2 -∗ bAny (F := F) (px c (mask 1 2)) 1 2 -∗ bAny (F := F) (px c (mask 2 2)) 2 2
        -∗ ∀ v2 v3 v24 w v128 v139, wpc c (kk ⟨c, v2, v3, v24, w⟩ ⟨k0_pay2 (sc SX) (sc SW), v128, v139⟩) Q)
      -∗ wpc c (ap (k0_part1 (F := F)) >>= fun a => ap (k0_part2 (F := F)) a.1 a.2.1 a.2.2.1 a.2.2.2.1 a.2.2.2.2 >>= fun _ => ap (k0_part3 (F := F)) a.1 a.2.1 >>= fun v81 =>
        ap (k0_part4 (F := F)) a.1 a.2.1 v81 >>= fun _ => ap (k0_part5 (F := F)) a.1 a.2.1 >>= fun b => kk a b) Q) := by
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [ap, Prog.lift, Prog.bind_op, Prog.bind_ret, Prog.pure_eq_ret, semSignalWord, semWaitWord, smemLoad, smemLoadElt, wp_deviceId]
  iintro #HC HD WB CB G1 G2 G3 G4 G5 G6 G7 X1 X2 X3 X4 X5 X6 X7 X0 R0 MX MW HW Hk
  ihave G1 := (pay_bar_to c X W 1) $$ G1
  ihave G2 := (pay_bar_to c X W 2) $$ G2
  ihave G3 := (pay_bar_to c X W 3) $$ G3
  ihave G4 := (pay_bar_to c X W 4) $$ G4
  ihave G5 := (pay_bar_to c X W 5) $$ G5
  ihave G6 := (pay_bar_to c X W 6) $$ G6
  ihave G7 := (pay_bar_to c X W 7) $$ G7
  iapply (st_sig X W K c items (items.drop 1) .bar 1 rfl (by revert c; decide) rfl (by decide) rfl) $$ HC HD G1
  iintro HD
  iapply (st_sig X W K c (items.drop 1) (items.drop 2) .bar 2 rfl (by revert c; decide) rfl (by decide) rfl) $$ HC HD G2
  iintro HD
  iapply (st_sig X W K c (items.drop 2) (items.drop 3) .bar 3 rfl (by revert c; decide) rfl (by decide) rfl) $$ HC HD G3
  iintro HD
  iapply (st_sig X W K c (items.drop 3) (items.drop 4) .bar 4 rfl (by revert c; decide) rfl (by decide) rfl) $$ HC HD G4
  iintro HD
  iapply (st_sig X W K c (items.drop 4) (items.drop 5) .bar 5 rfl (by revert c; decide) rfl (by decide) rfl) $$ HC HD G5
  iintro HD
  iapply (st_sig X W K c (items.drop 5) (items.drop 6) .bar 6 rfl (by revert c; decide) rfl (by decide) rfl) $$ HC HD G6
  iintro HD
  iapply (st_sig X W K c (items.drop 6) (items.drop 7) .bar 7 rfl (by revert c; decide) rfl (by decide) rfl) $$ HC HD G7
  iintro HD
  iapply (st_fin7 X W K c (items.drop 7) .bar rfl rfl (fun _ => rfl)) $$ HC HD WB CB
  iintro HD DB HP
  ihave ⟨⟨T7, T6, T5, T4, T3, T2, T1⟩, B00, B10, B20, B01, B11, B21, B02, B12, B22⟩ := (ent_eq (pay_bar c X W)) $$ HP
  iapply (st_cpyA X W K c (items.drop 7) (items.drop 8) 1 (by decide) rfl (by revert c; decide) (sliceX (off2 c 1 (by decide))) (sliceR (off1 c)) rfl rfl) $$ HC HD X1 T1
  iintro HD C1
  iapply (st_cpyA X W K c (items.drop 8) (items.drop 9) 2 (by decide) rfl (by revert c; decide) (sliceX (off2 c 2 (by decide))) (sliceR (off1 c)) rfl rfl) $$ HC HD X2 T2
  iintro HD C2
  iapply (st_cpyA X W K c (items.drop 9) (items.drop 10) 3 (by decide) rfl (by revert c; decide) (sliceX (off2 c 3 (by decide))) (sliceR (off1 c)) rfl rfl) $$ HC HD X3 T3
  iintro HD C3
  iapply (st_cpyA X W K c (items.drop 10) (items.drop 11) 4 (by decide) rfl (by revert c; decide) (sliceX (off2 c 4 (by decide))) (sliceR (off1 c)) rfl rfl) $$ HC HD X4 T4
  iintro HD C4
  iapply (st_cpyA X W K c (items.drop 11) (items.drop 12) 5 (by decide) rfl (by revert c; decide) (sliceX (off2 c 5 (by decide))) (sliceR (off1 c)) rfl rfl) $$ HC HD X5 T5
  iintro HD C5
  iapply (st_cpyA X W K c (items.drop 12) (items.drop 13) 6 (by decide) rfl (by revert c; decide) (sliceX (off2 c 6 (by decide))) (sliceR (off1 c)) rfl rfl) $$ HC HD X6 T6
  iintro HD C6
  iapply (st_cpyA X W K c (items.drop 13) (items.drop 14) 7 (by decide) rfl (by revert c; decide) (sliceX (off2 c 7 (by decide))) (sliceR (off1 c)) rfl rfl) $$ HC HD X7 T7
  iintro HD C7
  iapply (wp_ld c (inbX c) (off3 c)) $$ X0
  iintro X0
  iapply (wp_ld c (inbC c) (off4 c)) $$ R0
  iintro R0
  iapply (wp_st c (inbC c) (off4 c)) $$ R0
  iintro R0
  iapply (wp_ldsub c (P := xsM) rfl) $$ MX
  iintro MX
  iapply (wp_ldsub c (P := wsM) rfl) $$ MW
  iintro MW
  ihave B00 := (ent_eq (any0 (F := F) (px c (mask 0 0)) 0)) $$ B00
  iapply (st_cpyB X W K c (items.drop 14) (items.drop 15) 0 0 0 (by decide) rfl (by revert c; decide) rfl rfl rfl rfl
    (by revert c; decide) ent_rfl) $$ HC HD HW B00
  iintro HD S0
  iapply Hk $$ HD DB C1 C2 C3 C4 C5 C6 C7 S0 X0 [R0] MX MW B10 B20 B01 B11 B21 B02 B12 B22
  · iapply (ent_eq (congrArg (owns (c : Thread nD τ) (xrB c) fullShare) (pay1_id (xrow X c c)))) $$ R0

end Seg

end Cert.KernelIdeal.Hyper

end
-- ==== Proof.SegB.lean ====
/-
# `01_k` — the gathered rows and the first products
-/
module

public import proofs.«01_k».proof.Proof.Bar

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Seg

variable (X : Dev nD → (cc0_stg0_0 : Ref sig .tc).ty.Contents (Elt F)) (W : Dev nD → (cc0_stg1_0 : Ref sig .tc).ty.Contents (Elt F))
variable (K : Dev nD × CI → ℕ) (c : Dev nD)

/-- The columns from the device `d` before. -/
abbrev hasR (e : Dev nD) : sProp 𝕄 := owns (c : Thread nD τ) (xrB e) fullShare (xrow X e c)

omit [FloatOps F] in
/-- All the columns together. -/
theorem xr_all : iprop(hasR X c c ∗ hasR X c (bk c 1) ∗ hasR X c (bk c 2) ∗ hasR X c (bk c 3) ∗ hasR X c (bk c 4) ∗ hasR X c (bk c 5) ∗ hasR X c (bk c 6) ∗ hasR X c (bk c 7))
    = (xrAll X c : sProp 𝕄) := by
  unfold xrAll
  rw [BI.bigSep_univ_eq_bigSepL [c, bk c 1, bk c 2, bk c 3, bk c 4, bk c 5, bk c 6, bk c 7] (by revert c; decide) (by revert c; decide)]; rfl

/-- Parts 6 to 10: the other first copies of the second operand, the gathered rows waited for, the first products. -/
theorem segB {α : Type} {Q : α → sProp 𝕄} (v2 v128 : BitVec 32)
    {kk : BitVec 32 → Prog (TpuEff nD τ sig (Elt F) Λ₀ .tc) α} :
    ctx X W K ⊢ iprop(Due (F := F) c (items.drop 15) -∗ hasW W c 1 0 -∗ bAny (F := F) (px c (mask 1 0)) 1 0 -∗ hasW W c 2 0 -∗ bAny (F := F) (px c (mask 2 0)) 2 0
      -∗ WS X W c (.ra 1) 0 -∗ C1 c (.ra 1) -∗ WS X W c (.ra 2) 0 -∗ C1 c (.ra 2) -∗ WS X W c (.ra 3) 0 -∗ C1 c (.ra 3) -∗ WS X W c (.ra 4) 0 -∗ C1 c (.ra 4)
      -∗ WS X W c (.ra 5) 0 -∗ C1 c (.ra 5) -∗ WS X W c (.ra 6) 0 -∗ C1 c (.ra 6) -∗ WS X W c (.ra 7) 0 -∗ C1 c (.ra 7)
      -∗ hasR X c c -∗ hasW W c 0 3 -∗ hasW W c 1 3 -∗ hasW W c 2 3
      -∗ (∃ A, owns (c : Thread nD τ) o00 fullShare A) -∗ (∃ A, owns (c : Thread nD τ) o01 fullShare A) -∗ (∃ A, owns (c : Thread nD τ) o10 fullShare A)
      -∗ (∃ A, owns (c : Thread nD τ) o11 fullShare A) -∗ (∃ A, owns (c : Thread nD τ) o20 fullShare A) -∗ (∃ A, owns (c : Thread nD τ) o21 fullShare A)
      -∗ (Due (F := F) c (items.drop 17) -∗ C1 c (.ss 1 0) -∗ C1 c (.ss 2 0)
        -∗ Dn c (.ra 1) -∗ Dn c (.ra 2) -∗ Dn c (.ra 3) -∗ Dn c (.ra 4) -∗ Dn c (.ra 5) -∗ Dn c (.ra 6) -∗ Dn c (.ra 7)
        -∗ xrAll X c -∗ hasW W c 0 3 -∗ hasW W c 1 3 -∗ hasW W c 2 3 -∗ outS X W c 0
        -∗ ∀ v150, wpc c (kk v150) Q)
      -∗ wpc c (ap (k0_part6 (F := F)) c v2 >>= fun v150 => ap (k0_part7 (F := F)) c v2 >>= fun _ => ap (k0_part8 (F := F)) c v2 >>= fun v223 => ap (k0_part9 (F := F)) c v2 v223 >>= fun a =>
        ap (k0_part10 (F := F)) c v2 v128 a.1 a.2 >>= fun _ => kk v150) Q) := by
  rw [k0_part6_eq_skeleton, k0_part7_eq_skeleton, k0_part8_eq_skeleton, k0_part9_eq_skeleton, k0_part10_eq_skeleton]
  unfold k0_part6_skel k0_part7_skel k0_part8_skel k0_part9_skel k0_part10_skel
  simp only [ap, Prog.lift, Prog.bind_op, Prog.bind_ret, Prog.pure_eq_ret]
  iintro #HC HD W1 T1 W2 T2 R1 C1 R2 C2 R3 C3 R4 C4 R5 C5 R6 C6 R7 C7 X0 L0 L1 L2 O00 O01 O10 O11 O20 O21 Hk
  ihave T1 := (ent_eq (any0 (F := F) (px c (mask 1 0)) 1)) $$ T1
  ihave T2 := (ent_eq (any0 (F := F) (px c (mask 2 0)) 2)) $$ T2
  iapply (st_cpyB X W K c (items.drop 15) (items.drop 16) 1 0 0 (by decide) rfl (by revert c; decide) rfl rfl rfl rfl
    (by revert c; decide) ent_rfl) $$ HC HD W1 T1
  iintro HD S1
  iapply (st_cpyB X W K c (items.drop 16) (items.drop 17) 2 0 0 (by decide) rfl (by revert c; decide) rfl rfl rfl rfl
    (by revert c; decide) ent_rfl) $$ HC HD W2 T2
  iintro HD S2
  iapply (st_fin X W K c (items.drop 17) (.ra 1) 0 rfl rfl (payRa X W c 1 rfl) (fun _ => rfl)) $$ HC HD R1 C1
  iintro HD R1 X1
  iapply (st_fin X W K c (items.drop 17) (.ra 2) 0 rfl rfl (payRa X W c 2 rfl) (fun _ => rfl)) $$ HC HD R2 C2
  iintro HD R2 X2
  iapply (st_fin X W K c (items.drop 17) (.ra 3) 0 rfl rfl (payRa X W c 3 rfl) (fun _ => rfl)) $$ HC HD R3 C3
  iintro HD R3 X3
  iapply (st_fin X W K c (items.drop 17) (.ra 4) 0 rfl rfl (payRa X W c 4 rfl) (fun _ => rfl)) $$ HC HD R4 C4
  iintro HD R4 X4
  iapply (st_fin X W K c (items.drop 17) (.ra 5) 0 rfl rfl (payRa X W c 5 rfl) (fun _ => rfl)) $$ HC HD R5 C5
  iintro HD R5 X5
  iapply (st_fin X W K c (items.drop 17) (.ra 6) 0 rfl rfl (payRa X W c 6 rfl) (fun _ => rfl)) $$ HC HD R6 C6
  iintro HD R6 X6
  iapply (st_fin X W K c (items.drop 17) (.ra 7) 0 rfl rfl (payRa X W c 7 rfl) (fun _ => rfl)) $$ HC HD R7 C7
  iintro HD R7 X7
  ihave HX := (ent_eq (xr_all X c)) $$ [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  iapply (st_mm0 X c c (off4 c) rfl rfl) $$ HX L0 O00 O01
  iintro HX L0 O00 O01
  iapply (st_mm0 X c c (off4 c) rfl rfl) $$ HX L1 O10 O11
  iintro HX L1 O10 O11
  iapply (st_mm0 X c c (off4 c) rfl rfl) $$ HX L2 O20 O21
  iintro HX L2 O20 O21
  iapply Hk $$ HD S1 S2 R1 R2 R3 R4 R5 R6 R7 HX L0 L1 L2 [O00 O01 O10 O11 O20 O21]
  unfold outS
  isplitl [O00]; · iexact O00
  isplitl [O01]; · iexact O01
  isplitl [O10]; · iexact O10
  isplitl [O11]; · iexact O11
  isplitl [O20]; · iexact O20
  iexact O21

end Seg

end Cert.KernelIdeal.Hyper

end
-- ==== Proof.SegC.lean ====
/-
# `01_k` — the first two stages of the second operand's parts
-/
module

public import proofs.«01_k».proof.Proof.Bar

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Seg

variable (X : Dev nD → (cc0_stg0_0 : Ref sig .tc).ty.Contents (Elt F)) (W : Dev nD → (cc0_stg1_0 : Ref sig .tc).ty.Contents (Elt F))
variable (K : Dev nD × CI → ℕ) (c : Dev nD)

/-- Parts 11 to 22: the first stage waited for, the second stage's copies, its products and its waits. -/
theorem segC {α : Type} {Q : α → sProp 𝕄} (v139 v150 v2 : BitVec 32) {kk : BitVec 32 → Prog (TpuEff nD τ sig (Elt F) Λ₀ .tc) α} :
    ctx X W K ⊢ iprop(Due (F := F) c (items.drop 17)
      -∗ WS X W c (.rs 0 0) 0 -∗ C1 c (.rs 0 0) -∗ WS X W c (.rs 1 0) 0 -∗ C1 c (.rs 1 0) -∗ WS X W c (.rs 2 0) 0 -∗ C1 c (.rs 2 0)
      -∗ WS X W c (.ss 0 0) 0 -∗ C1 c (.ss 0 0) -∗ WS X W c (.ss 1 0) 0 -∗ C1 c (.ss 1 0) -∗ WS X W c (.ss 2 0) 0 -∗ C1 c (.ss 2 0)
      -∗ hasW W c 0 1 -∗ bAny (F := F) (px c (mask 0 1)) 0 1 -∗ hasW W c 1 1 -∗ bAny (F := F) (px c (mask 1 1)) 1 1 -∗ hasW W c 2 1 -∗ bAny (F := F) (px c (mask 2 1)) 2 1
      -∗ WS X W c (.rs 0 1) 0 -∗ C1 c (.rs 0 1) -∗ C1 c (.rs 0 1) -∗ WS X W c (.rs 1 1) 0 -∗ C1 c (.rs 1 1) -∗ C1 c (.rs 1 1) -∗ WS X W c (.rs 2 1) 0 -∗ C1 c (.rs 2 1) -∗ C1 c (.rs 2 1)
      -∗ WS X W c (.ss 0 1) 0 -∗ WS X W c (.ss 1 1) 0 -∗ WS X W c (.ss 2 1) 0
      -∗ xrAll X c -∗ outS X W c 0
      -∗ (Due (F := F) c (items.drop 23)
        -∗ Dn c (.rs 0 0) -∗ Dn c (.rs 1 0) -∗ Dn c (.rs 2 0) -∗ Dn c (.ss 0 0) -∗ Dn c (.ss 1 0) -∗ Dn c (.ss 2 0)
        -∗ Dn c (.rs 0 1) -∗ Dn c (.rs 1 1) -∗ Dn c (.rs 2 1) -∗ Dn c (.ss 0 1) -∗ Dn c (.ss 1 1) -∗ Dn c (.ss 2 1)
        -∗ hasW W c 0 0 -∗ hasW W c 1 0 -∗ hasW W c 2 0 -∗ hasW W c 0 1 -∗ hasW W c 1 1 -∗ hasW W c 2 1
        -∗ hasB W c 0 0 0 fullShare.left.left -∗ hasB W c 0 0 0 fullShare.left.right -∗ hasB W c 0 0 0 fullShare.right -∗ hasB W c 1 0 0 fullShare.left.left -∗ hasB W c 1 0 0 fullShare.left.right -∗ hasB W c 1 0 0 fullShare.right -∗ hasB W c 2 0 0 fullShare.left.left -∗ hasB W c 2 0 0 fullShare.left.right -∗ hasB W c 2 0 0 fullShare.right
        -∗ hasB W c 0 1 0 fullShare -∗ hasB W c 0 1 1 fullShare -∗ hasB W c 1 1 0 fullShare -∗ hasB W c 1 1 1 fullShare -∗ hasB W c 2 1 0 fullShare -∗ hasB W c 2 1 1 fullShare
        -∗ xrAll X c -∗ outS X W c 1
        -∗ ∀ v543, wpc c (kk v543) Q)
      -∗ wpc c (ap (k0_part11 (F := F)) v139 v150 >>= fun _ => ap (k0_part12 (F := F)) v2 >>= fun v312 => ap (k0_part13 (F := F)) c v2 v312 >>= fun v335 =>
        ap (k0_part14 (F := F)) c v2 v335 >>= fun v358 => ap (k0_part15 (F := F)) c v2 v358 >>= fun a => ap (k0_part16 (F := F)) c v2 a.1 a.2 >>= fun v406 =>
        ap (k0_part17 (F := F)) c v2 v406 >>= fun b => ap (k0_part18 (F := F)) v312 b.1 b.2 >>= fun _ => ap (k0_part19 (F := F)) v335 v358 >>= fun _ =>
        ap (k0_part20 (F := F)) v358 >>= fun _ => ap (k0_part21 (F := F)) >>= fun _ => ap (k0_part22 (F := F)) v2 >>= kk) Q) := by
  rw [k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton]
  unfold k0_part11_skel k0_part12_skel k0_part13_skel k0_part14_skel k0_part15_skel k0_part16_skel k0_part17_skel k0_part18_skel k0_part19_skel k0_part20_skel k0_part21_skel k0_part22_skel outS
  simp only [ap, Prog.lift, Prog.bind_op, Prog.bind_ret, Prog.pure_eq_ret]
  iintro #HC HD R0 Cr0 R1 Cr1 R2 Cr2 S0 Cs0 S1 Cs1 S2 Cs2 W0 T0 W1 T1 W2 T2 RR0 Ca0 Cb0 RR1 Ca1 Cb1 RR2 Ca2 Cb2 SS0 SS1 SS2 HX ⟨O00, O01, O10, O11, O20, O21⟩ Hk
  iapply (st_fin X W K c (items.drop 17) (.rs 0 0) 0 rfl rfl (payR0 X W c 0) (fun _ => rfl)) $$ HC HD R0 Cr0
  iintro HD R0 P0
  iapply (st_fin X W K c (items.drop 17) (.rs 1 0) 0 rfl rfl (payR0 X W c 1) (fun _ => rfl)) $$ HC HD R1 Cr1
  iintro HD R1 P1
  iapply (st_fin X W K c (items.drop 17) (.rs 2 0) 0 rfl rfl (payR0 X W c 2) (fun _ => rfl)) $$ HC HD R2 Cr2
  iintro HD R2 P2
  iapply (st_fin X W K c (items.drop 17) (.ss 0 0) 0 rfl rfl (payS0 X W c 0) (fun _ => rfl)) $$ HC HD S0 Cs0
  iintro HD S0 V0
  iapply (st_fin X W K c (items.drop 17) (.ss 1 0) 0 rfl rfl (payS0 X W c 1) (fun _ => rfl)) $$ HC HD S1 Cs1
  iintro HD S1 V1
  iapply (st_fin X W K c (items.drop 17) (.ss 2 0) 0 rfl rfl (payS0 X W c 2) (fun _ => rfl)) $$ HC HD S2 Cs2
  iintro HD S2 V2
  ihave ⟨Pa0, Pb0, Pc0⟩ := (split3 c (bM 0 0 0) (wpart W 0 (px c (rel 0 0 0)))) $$ P0
  ihave ⟨T0, U0⟩ := (ent_eq (any1 (F := F) (px c (mask 0 1)) 0)) $$ T0
  iapply (st_cpyB X W K c (items.drop 17) (items.drop 18) 0 1 0 (by decide) rfl (by revert c; decide) rfl rfl rfl rfl
    (by revert c; decide) ent_rfl) $$ HC HD W0 T0
  iintro HD Cs0
  iapply (st_cpyB X W K c (items.drop 18) (items.drop 19) 0 1 1 (by decide) rfl (by revert c; decide) rfl rfl rfl rfl
    (by revert c; decide) ent_rfl) $$ HC HD Pa0 U0
  iintro HD Ct0
  ihave ⟨Pa1, Pb1, Pc1⟩ := (split3 c (bM 1 0 0) (wpart W 1 (px c (rel 1 0 0)))) $$ P1
  ihave ⟨T1, U1⟩ := (ent_eq (any1 (F := F) (px c (mask 1 1)) 1)) $$ T1
  iapply (st_cpyB X W K c (items.drop 19) (items.drop 20) 1 1 0 (by decide) rfl (by revert c; decide) rfl rfl rfl rfl
    (by revert c; decide) ent_rfl) $$ HC HD W1 T1
  iintro HD Cs1
  iapply (st_cpyB X W K c (items.drop 20) (items.drop 21) 1 1 1 (by decide) rfl (by revert c; decide) rfl rfl rfl rfl
    (by revert c; decide) ent_rfl) $$ HC HD Pa1 U1
  iintro HD Ct1
  ihave ⟨Pa2, Pb2, Pc2⟩ := (split3 c (bM 2 0 0) (wpart W 2 (px c (rel 2 0 0)))) $$ P2
  ihave ⟨T2, U2⟩ := (ent_eq (any1 (F := F) (px c (mask 2 1)) 2)) $$ T2
  iapply (st_cpyB X W K c (items.drop 21) (items.drop 22) 2 1 0 (by decide) rfl (by revert c; decide) rfl rfl rfl rfl
    (by revert c; decide) ent_rfl) $$ HC HD W2 T2
  iintro HD Cs2
  iapply (st_cpyB X W K c (items.drop 22) (items.drop 23) 2 1 1 (by decide) rfl (by revert c; decide) rfl rfl rfl rfl
    (by revert c; decide) ent_rfl) $$ HC HD Pa2 U2
  iintro HD Ct2
  iapply (st_mm X c (px c (rel 0 0 0)) (off6 c (rel 0 0 0)) (hl0 c 0 _ _) (hl0 c 0 _ _)) $$ HX Pc0 O00 O01
  iintro HX Pc0 O00 O01
  iapply (st_mm X c (px c (rel 1 0 0)) (off6 c (rel 1 0 0)) (hl0 c 1 _ _) (hl0 c 1 _ _)) $$ HX Pc1 O10 O11
  iintro HX Pc1 O10 O11
  iapply (st_mm X c (px c (rel 2 0 0)) (off6 c (rel 2 0 0)) (hl0 c 2 _ _) (hl0 c 2 _ _)) $$ HX Pc2 O20 O21
  iintro HX Pc2 O20 O21
  iapply (st_w2 X W K c (items.drop 23) (.rs 0 1) rfl rfl (payR1 X W c 0) (fun _ => rfl) (fun _ => rfl)) $$ HC HD RR0 Ca0 Cb0
  iintro HD RR0 ⟨Q0, Y0⟩
  iapply (st_w2 X W K c (items.drop 23) (.rs 1 1) rfl rfl (payR1 X W c 1) (fun _ => rfl) (fun _ => rfl)) $$ HC HD RR1 Ca1 Cb1
  iintro HD RR1 ⟨Q1, Y1⟩
  iapply (st_w2 X W K c (items.drop 23) (.rs 2 1) rfl rfl (payR1 X W c 2) (fun _ => rfl) (fun _ => rfl)) $$ HC HD RR2 Ca2 Cb2
  iintro HD RR2 ⟨Q2, Y2⟩
  iapply (st_w2 X W K c (items.drop 23) (.ss 0 1) rfl rfl (payS1 X W c 0) (fun _ => rfl) (fun _ => rfl)) $$ HC HD SS0 Cs0 Ct0
  iintro HD SS0 ⟨W0, Pa0⟩
  iapply (st_w2 X W K c (items.drop 23) (.ss 1 1) rfl rfl (payS1 X W c 1) (fun _ => rfl) (fun _ => rfl)) $$ HC HD SS1 Cs1 Ct1
  iintro HD SS1 ⟨W1, Pa1⟩
  iapply (st_w2 X W K c (items.drop 23) (.ss 2 1) rfl rfl (payS1 X W c 2) (fun _ => rfl) (fun _ => rfl)) $$ HC HD SS2 Cs2 Ct2
  iintro HD SS2 ⟨W2, Pa2⟩
  iapply Hk $$ HD R0 R1 R2 S0 S1 S2 RR0 RR1 RR2 SS0 SS1 SS2 V0 V1 V2 W0 W1 W2 Pa0 Pb0 Pc0 Pa1 Pb1 Pc1 Pa2 Pb2 Pc2 Q0 Y0 Q1 Y1 Q2 Y2 HX [O00 O01 O10 O11 O20 O21]
  isplitl [O00]; · iexact O00
  isplitl [O01]; · iexact O01
  isplitl [O10]; · iexact O10
  isplitl [O11]; · iexact O11
  isplitl [O20]; · iexact O20
  iexact O21

end Seg

end Cert.KernelIdeal.Hyper

end
-- ==== Proof.SegD.lean ====
/-
# `01_k` — the third stage of the second operand's parts
-/
module

public import proofs.«01_k».proof.Proof.Bar

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Seg

variable (X : Dev nD → (cc0_stg0_0 : Ref sig .tc).ty.Contents (Elt F)) (W : Dev nD → (cc0_stg1_0 : Ref sig .tc).ty.Contents (Elt F))
variable (K : Dev nD × CI → ℕ) (c : Dev nD)

set_option maxHeartbeats 4000000 in
/-- Parts 23 to 43: the third stage's copies, the products of the second stage's pieces, the third stage's waits, the first products of its pieces. -/
theorem segD {α : Type} {Q : α → sProp 𝕄} (v2 v543 : BitVec 32) {kk : Prog (TpuEff nD τ sig (Elt F) Λ₀ .tc) α} :
    ctx X W K ⊢ iprop(Due (F := F) c (items.drop 23)
      -∗ hasW W c 0 2 -∗ hasB W c 0 0 0 fullShare.left.right -∗ hasB W c 0 1 0 fullShare -∗ hasB W c 0 1 1 fullShare -∗ bAny (F := F) (px c (mask 0 2)) 0 2 -∗ hasW W c 1 2 -∗ hasB W c 1 0 0 fullShare.left.right -∗ hasB W c 1 1 0 fullShare -∗ hasB W c 1 1 1 fullShare -∗ bAny (F := F) (px c (mask 1 2)) 1 2 -∗ hasW W c 2 2 -∗ hasB W c 2 0 0 fullShare.left.right -∗ hasB W c 2 1 0 fullShare -∗ hasB W c 2 1 1 fullShare -∗ bAny (F := F) (px c (mask 2 2)) 2 2
      -∗ WS X W c (.rs 0 2) 0 -∗ C1 c (.rs 0 2) -∗ C1 c (.rs 0 2) -∗ C1 c (.rs 0 2) -∗ C1 c (.rs 0 2) -∗ WS X W c (.rs 1 2) 0 -∗ C1 c (.rs 1 2) -∗ C1 c (.rs 1 2) -∗ C1 c (.rs 1 2) -∗ C1 c (.rs 1 2) -∗ WS X W c (.rs 2 2) 0 -∗ C1 c (.rs 2 2) -∗ C1 c (.rs 2 2) -∗ C1 c (.rs 2 2) -∗ C1 c (.rs 2 2)
      -∗ WS X W c (.ss 0 2) 0 -∗ WS X W c (.ss 1 2) 0 -∗ WS X W c (.ss 2 2) 0
      -∗ xrAll X c -∗ outS X W c 1
      -∗ (Due (F := F) c (items.drop 35)
        -∗ Dn c (.rs 0 2) -∗ Dn c (.rs 1 2) -∗ Dn c (.rs 2 2) -∗ Dn c (.ss 0 2) -∗ Dn c (.ss 1 2) -∗ Dn c (.ss 2 2)
        -∗ hasW W c 0 2 -∗ hasB W c 0 0 0 fullShare.left.right -∗ hasB W c 0 1 0 fullShare -∗ hasB W c 0 1 1 fullShare -∗ hasW W c 1 2 -∗ hasB W c 1 0 0 fullShare.left.right -∗ hasB W c 1 1 0 fullShare -∗ hasB W c 1 1 1 fullShare -∗ hasW W c 2 2 -∗ hasB W c 2 0 0 fullShare.left.right -∗ hasB W c 2 1 0 fullShare -∗ hasB W c 2 1 1 fullShare
        -∗ hasB W c 0 2 0 fullShare -∗ hasB W c 0 2 1 fullShare -∗ hasB W c 0 2 2 fullShare -∗ hasB W c 0 2 3 fullShare -∗ hasB W c 1 2 0 fullShare -∗ hasB W c 1 2 1 fullShare -∗ hasB W c 1 2 2 fullShare -∗ hasB W c 1 2 3 fullShare -∗ hasB W c 2 2 0 fullShare -∗ hasB W c 2 2 1 fullShare -∗ hasB W c 2 2 2 fullShare -∗ hasB W c 2 2 3 fullShare
        -∗ xrAll X c
        -∗ owns (c : Thread nD τ) o00 fullShare (valA X W c 0 4) -∗ owns (c : Thread nD τ) o01 fullShare (valA X W c 1 4)
        -∗ owns (c : Thread nD τ) o10 fullShare (valB X W c 0 0 3) -∗ owns (c : Thread nD τ) o11 fullShare (valB X W c 0 1 3)
        -∗ owns (c : Thread nD τ) o20 fullShare (valB X W c 1 0 3) -∗ owns (c : Thread nD τ) o21 fullShare (valB X W c 1 1 3)
        -∗ wpc c kk Q)
      -∗ wpc c (ap (k0_part23 (F := F)) c v543 >>= fun _ => ap (k0_part24 (F := F)) c v2 v543 >>= fun v590 => ap (k0_part25 (F := F)) c v590 >>= fun _ =>
        ap (k0_part26 (F := F)) c v2 v590 >>= fun v637 => ap (k0_part27 (F := F)) c v637 >>= fun v672 => ap (k0_part28 (F := F)) c v2 v672 >>= fun v687 =>
        ap (k0_part29 (F := F)) c v2 v687 >>= fun v726 => ap (k0_part30 (F := F)) c v2 v726 >>= fun _ => ap (k0_part31 (F := F)) c v2 >>= fun v775 =>
        ap (k0_part32 (F := F)) c v2 v775 >>= fun a => ap (k0_part33 (F := F)) v543 a.1 a.2.1 a.2.2 >>= fun _ => ap (k0_part34 (F := F)) v543 >>= fun _ =>
        ap (k0_part35 (F := F)) v590 >>= fun _ => ap (k0_part36 (F := F)) v590 v637 >>= fun v892 => ap (k0_part37 (F := F)) v637 v892 >>= fun _ =>
        ap (k0_part38 (F := F)) v637 >>= fun _ => ap (k0_part39 (F := F)) >>= fun _ => ap (k0_part40 (F := F)) >>= fun _ => ap (k0_part41 (F := F)) >>= fun _ =>
        ap (k0_part42 (F := F)) >>= fun _ => ap (k0_part43 (F := F)) c v2 >>= fun _ => kk) Q) := by
  rw [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel outS
  simp only [ap, Prog.lift, Prog.bind_op, Prog.bind_ret, Prog.pure_eq_ret]
  iintro #HC HD W0 P0 Q0 Y0 T0 W1 P1 Q1 Y1 T1 W2 P2 Q2 Y2 T2 R0 Ca0 Cb0 Cc0 Cd0 R1 Ca1 Cb1 Cc1 Cd1 R2 Ca2 Cb2 Cc2 Cd2 S0 S1 S2 HX ⟨O00, O01, O10, O11, O20, O21⟩ Hk
  ihave ⟨Qa0, Qb0⟩ := (halve c (bM 0 1 0) fullShare (wpart W 0 (px c (rel 0 1 0)))) $$ Q0
  ihave ⟨Ya0, Yb0⟩ := (halve c (bM 0 1 1) fullShare (wpart W 0 (px c (rel 0 1 1)))) $$ Y0
  ihave ⟨Ta0, Tb0, Tc0, Td0⟩ := (ent_eq (any2 (F := F) (px c (mask 0 2)) 0)) $$ T0
  iapply (st_cpyB X W K c (items.drop 23) (items.drop 24) 0 2 0 (by decide) rfl (by revert c; decide) rfl rfl rfl rfl
    (by revert c; decide) ent_rfl) $$ HC HD W0 Ta0
  iintro HD Ce0
  iapply (st_cpyB X W K c (items.drop 24) (items.drop 25) 0 2 1 (by decide) rfl (by revert c; decide) rfl rfl rfl rfl
    (by revert c; decide) ent_rfl) $$ HC HD P0 Tb0
  iintro HD Cf0
  iapply (st_cpyB X W K c (items.drop 25) (items.drop 26) 0 2 2 (by decide) rfl (by revert c; decide) rfl rfl rfl rfl
    (by revert c; decide) ent_rfl) $$ HC HD Qa0 Tc0
  iintro HD Cg0
  iapply (st_cpyB X W K c (items.drop 26) (items.drop 27) 0 2 3 (by decide) rfl (by revert c; decide) rfl rfl rfl rfl
    (by revert c; decide) ent_rfl) $$ HC HD Ya0 Td0
  iintro HD Ch0
  ihave ⟨Qa1, Qb1⟩ := (halve c (bM 1 1 0) fullShare (wpart W 1 (px c (rel 1 1 0)))) $$ Q1
  ihave ⟨Ya1, Yb1⟩ := (halve c (bM 1 1 1) fullShare (wpart W 1 (px c (rel 1 1 1)))) $$ Y1
  ihave ⟨Ta1, Tb1, Tc1, Td1⟩ := (ent_eq (any2 (F := F) (px c (mask 1 2)) 1)) $$ T1
  iapply (st_cpyB X W K c (items.drop 27) (items.drop 28) 1 2 0 (by decide) rfl (by revert c; decide) rfl rfl rfl rfl
    (by revert c; decide) ent_rfl) $$ HC HD W1 Ta1
  iintro HD Ce1
  iapply (st_cpyB X W K c (items.drop 28) (items.drop 29) 1 2 1 (by decide) rfl (by revert c; decide) rfl rfl rfl rfl
    (by revert c; decide) ent_rfl) $$ HC HD P1 Tb1
  iintro HD Cf1
  iapply (st_cpyB X W K c (items.drop 29) (items.drop 30) 1 2 2 (by decide) rfl (by revert c; decide) rfl rfl rfl rfl
    (by revert c; decide) ent_rfl) $$ HC HD Qa1 Tc1
  iintro HD Cg1
  iapply (st_cpyB X W K c (items.drop 30) (items.drop 31) 1 2 3 (by decide) rfl (by revert c; decide) rfl rfl rfl rfl
    (by revert c; decide) ent_rfl) $$ HC HD Ya1 Td1
  iintro HD Ch1
  ihave ⟨Qa2, Qb2⟩ := (halve c (bM 2 1 0) fullShare (wpart W 2 (px c (rel 2 1 0)))) $$ Q2
  ihave ⟨Ya2, Yb2⟩ := (halve c (bM 2 1 1) fullShare (wpart W 2 (px c (rel 2 1 1)))) $$ Y2
  ihave ⟨Ta2, Tb2, Tc2, Td2⟩ := (ent_eq (any2 (F := F) (px c (mask 2 2)) 2)) $$ T2
  iapply (st_cpyB X W K c (items.drop 31) (items.drop 32) 2 2 0 (by decide) rfl (by revert c; decide) rfl rfl rfl rfl
    (by revert c; decide) ent_rfl) $$ HC HD W2 Ta2
  iintro HD Ce2
  iapply (st_cpyB X W K c (items.drop 32) (items.drop 33) 2 2 1 (by decide) rfl (by revert c; decide) rfl rfl rfl rfl
    (by revert c; decide) ent_rfl) $$ HC HD P2 Tb2
  iintro HD Cf2
  iapply (st_cpyB X W K c (items.drop 33) (items.drop 34) 2 2 2 (by decide) rfl (by revert c; decide) rfl rfl rfl rfl
    (by revert c; decide) ent_rfl) $$ HC HD Qa2 Tc2
  iintro HD Cg2
  iapply (st_cpyB X W K c (items.drop 34) (items.drop 35) 2 2 3 (by decide) rfl (by revert c; decide) rfl rfl rfl rfl
    (by revert c; decide) ent_rfl) $$ HC HD Ya2 Td2
  iintro HD Ch2
  iapply (st_mm X c (px c (rel 0 1 0)) (off6 c (rel 0 1 0)) (hl1 c 0 0 _ _) (hl1 c 0 0 _ _)) $$ HX Qb0 O00 O01
  iintro HX Qb0 O00 O01
  iapply (st_mm X c (px c (rel 0 1 1)) (off6 c (rel 0 1 1)) (hl1 c 0 1 _ _) (hl1 c 0 1 _ _)) $$ HX Yb0 O00 O01
  iintro HX Yb0 O00 O01
  iapply (st_mm X c (px c (rel 1 1 0)) (off6 c (rel 1 1 0)) (hl1 c 1 0 _ _) (hl1 c 1 0 _ _)) $$ HX Qb1 O10 O11
  iintro HX Qb1 O10 O11
  iapply (st_mm X c (px c (rel 1 1 1)) (off6 c (rel 1 1 1)) (hl1 c 1 1 _ _) (hl1 c 1 1 _ _)) $$ HX Yb1 O10 O11
  iintro HX Yb1 O10 O11
  iapply (st_mm X c (px c (rel 2 1 0)) (off6 c (rel 2 1 0)) (hl1 c 2 0 _ _) (hl1 c 2 0 _ _)) $$ HX Qb2 O20 O21
  iintro HX Qb2 O20 O21
  iapply (st_mm X c (px c (rel 2 1 1)) (off6 c (rel 2 1 1)) (hl1 c 2 1 _ _) (hl1 c 2 1 _ _)) $$ HX Yb2 O20 O21
  iintro HX Yb2 O20 O21
  iapply (st_w4 X W K c (items.drop 35) (.rs 0 2) rfl rfl (payR2 X W c 0) (fun _ => rfl) (fun _ => rfl) (fun _ => rfl) (fun _ => rfl)) $$ HC HD R0 Ca0 Cb0 Cc0 Cd0
  iintro HD R0 ⟨Z00, Z10, Z20, Z30⟩
  iapply (st_w4 X W K c (items.drop 35) (.rs 1 2) rfl rfl (payR2 X W c 1) (fun _ => rfl) (fun _ => rfl) (fun _ => rfl) (fun _ => rfl)) $$ HC HD R1 Ca1 Cb1 Cc1 Cd1
  iintro HD R1 ⟨Z01, Z11, Z21, Z31⟩
  iapply (st_w4 X W K c (items.drop 35) (.rs 2 2) rfl rfl (payR2 X W c 2) (fun _ => rfl) (fun _ => rfl) (fun _ => rfl) (fun _ => rfl)) $$ HC HD R2 Ca2 Cb2 Cc2 Cd2
  iintro HD R2 ⟨Z02, Z12, Z22, Z32⟩
  iapply (st_w4 X W K c (items.drop 35) (.ss 0 2) rfl rfl (payS2 X W c 0) (fun _ => rfl) (fun _ => rfl) (fun _ => rfl) (fun _ => rfl)) $$ HC HD S0 Ce0 Cf0 Cg0 Ch0
  iintro HD S0 ⟨W0, P0, Qa0, Ya0⟩
  ihave Q0 := (unhalve c (bM 0 1 0) fullShare (wpart W 0 (px c (rel 0 1 0)))) $$ [Qa0 Qb0]
  · isplitl [Qa0] <;> iassumption
  ihave Y0 := (unhalve c (bM 0 1 1) fullShare (wpart W 0 (px c (rel 0 1 1)))) $$ [Ya0 Yb0]
  · isplitl [Ya0] <;> iassumption
  iapply (st_w4 X W K c (items.drop 35) (.ss 1 2) rfl rfl (payS2 X W c 1) (fun _ => rfl) (fun _ => rfl) (fun _ => rfl) (fun _ => rfl)) $$ HC HD S1 Ce1 Cf1 Cg1 Ch1
  iintro HD S1 ⟨W1, P1, Qa1, Ya1⟩
  ihave Q1 := (unhalve c (bM 1 1 0) fullShare (wpart W 1 (px c (rel 1 1 0)))) $$ [Qa1 Qb1]
  · isplitl [Qa1] <;> iassumption
  ihave Y1 := (unhalve c (bM 1 1 1) fullShare (wpart W 1 (px c (rel 1 1 1)))) $$ [Ya1 Yb1]
  · isplitl [Ya1] <;> iassumption
  iapply (st_w4 X W K c (items.drop 35) (.ss 2 2) rfl rfl (payS2 X W c 2) (fun _ => rfl) (fun _ => rfl) (fun _ => rfl) (fun _ => rfl)) $$ HC HD S2 Ce2 Cf2 Cg2 Ch2
  iintro HD S2 ⟨W2, P2, Qa2, Ya2⟩
  ihave Q2 := (unhalve c (bM 2 1 0) fullShare (wpart W 2 (px c (rel 2 1 0)))) $$ [Qa2 Qb2]
  · isplitl [Qa2] <;> iassumption
  ihave Y2 := (unhalve c (bM 2 1 1) fullShare (wpart W 2 (px c (rel 2 1 1)))) $$ [Ya2 Yb2]
  · isplitl [Ya2] <;> iassumption
  iapply (st_mm X c (px c (rel 0 2 0)) (off6 c (rel 0 2 0)) (hl2 c 0 0 _ _) (hl2 c 0 0 _ _)) $$ HX Z00 O00 O01
  iintro HX Z00 O00 O01
  iapply Hk $$ HD R0 R1 R2 S0 S1 S2 W0 P0 Q0 Y0 W1 P1 Q1 Y1 W2 P2 Q2 Y2 Z00 Z10 Z20 Z30 Z01 Z11 Z21 Z31 Z02 Z12 Z22 Z32 HX [O00] [O01] [O10] [O11] [O20] [O21]
  · iexact O00
  · iexact O01
  · iexact O10
  · iexact O11
  · iexact O20
  · iexact O21

end Seg

end Cert.KernelIdeal.Hyper

end
-- ==== Proof.Out.lean ====
/-
# `01_k` — the output's strips and slices
-/
module

public import proofs.«01_k».proof.Proof.Bar
public import Idealize.ShloMosaic.Lib.Pipeline.Value

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting along one axis -/

section Cut

variable {s : Shape} {T : Type} [Fintype T] [DecidableEq T] (a : Fin s.rank) (off siz : T → Fin s.rank → ℕ) (inb : ∀ t b, off t b + siz t b ≤ s.size b)

theorem cut_disj (h : ∀ t t', t ≠ t' → off t a + siz t a ≤ off t' a ∨ off t' a + siz t' a ≤ off t a) :
    ∀ t t', t ≠ t' → Disjoint (Rect.unit (off t) (siz t) (inb t)).set (Rect.unit (off t') (siz t') (inb t')).set :=
  fun t t' ht => Rect.unit_disjoint a (h t t' ht)

theorem cut_cov (hb : ∀ t b, b ≠ a → off t b = 0 ∧ siz t b = s.size b) (hc : ∀ j < s.size a, ∃ t, off t a ≤ j ∧ j < off t a + siz t a) :
    (Finset.univ : Finset T).biUnion (fun t => (Rect.unit (off t) (siz t) (inb t)).set) = Finset.univ := by
  refine Finset.eq_univ_of_forall fun i => ?_
  obtain ⟨t, h1, h2⟩ := hc (i a).val (i a).isLt
  refine Finset.mem_biUnion.mpr ⟨t, Finset.mem_univ _, Rect.mem_set_unit.mpr fun b => ?_⟩
  by_cases h : b = a
  · subst h; exact ⟨h1, h2⟩
  · obtain ⟨e1, e2⟩ := hb t b h
    have := (i b).isLt
    exact ⟨by omega, by omega⟩

end Cut

/-! ## The output -/

section Out

variable (X : Dev nD → (cc0_stg0_0 : Ref sig .tc).ty.Contents (Elt F)) (W : Dev nD → (cc0_stg1_0 : Ref sig .tc).ty.Contents (Elt F)) (c : Dev nD)

/-- The strips' first columns and widths. -/
abbrev so : Fin 6 → ℕ := ![0, 1408, 2816, 4160, 5504, 6848]
abbrev sw : Fin 6 → ℕ := ![1408, 1408, 1344, 1344, 1344, 1344]
theorem s_inb : ∀ (t : Fin 6) (b : Fin 2), (![0, so t] : Fin 2 → ℕ) b + (![512, sw t] : Fin 2 → ℕ) b ≤ S512x8192.size b := by decide
/-- A strip of the output. -/
abbrev sR (t : Fin 6) : Rect S512x8192 := Rect.unit ![0, so t] ![512, sw t] (s_inb t)
theorem s_disj : ∀ t t', t ≠ t' → Disjoint (sR t).set (sR t').set :=
  cut_disj (s := S512x8192) 1 (fun t => ![0, so t]) (fun t => ![512, sw t]) s_inb (by decide)
theorem s_find (j : ℕ) (h : j < 8192) : ∃ t : Fin 6, so t ≤ j ∧ j < so t + sw t := by
  by_cases h0 : j < 1408; · exact ⟨0, Nat.zero_le _, h0⟩
  by_cases h1 : j < 2816; · exact ⟨1, Nat.le_of_not_lt h0, h1⟩
  by_cases h2 : j < 4160; · exact ⟨2, Nat.le_of_not_lt h1, h2⟩
  by_cases h3 : j < 5504; · exact ⟨3, Nat.le_of_not_lt h2, h3⟩
  by_cases h4 : j < 6848; · exact ⟨4, Nat.le_of_not_lt h3, h4⟩
  exact ⟨5, Nat.le_of_not_lt h4, h⟩
theorem s_cov : (Finset.univ : Finset (Fin 6)).biUnion (fun t => (sR t).set) = Finset.univ :=
  cut_cov (s := S512x8192) 1 (fun t => ![0, so t]) (fun t => ![512, sw t]) s_inb (by decide) (fun j h => s_find j h)

/-- The slices scaled one after another. -/
abbrev zo : Fin 4 → ℕ := ![0, 2048, 4096, 6144]
theorem z_inb : ∀ (t : Fin 4) (b : Fin 2), (![0, zo t] : Fin 2 → ℕ) b + (![512, 2048] : Fin 2 → ℕ) b ≤ S512x8192.size b := by decide
abbrev zR (t : Fin 4) : Rect S512x8192 := Rect.unit ![0, zo t] ![512, 2048] (z_inb t)
theorem z_disj : ∀ t t', t ≠ t' → Disjoint (zR t).set (zR t').set :=
  cut_disj (s := S512x8192) 1 (fun t => ![0, zo t]) (fun _ => ![512, 2048]) z_inb (by decide)
theorem z_find (j : ℕ) (h : j < 8192) : ∃ t : Fin 4, zo t ≤ j ∧ j < zo t + 2048 := by
  by_cases h0 : j < 2048; · exact ⟨0, Nat.zero_le _, h0⟩
  by_cases h1 : j < 4096; · exact ⟨1, Nat.le_of_not_lt h0, h1⟩
  by_cases h2 : j < 6144; · exact ⟨2, Nat.le_of_not_lt h1, h2⟩
  exact ⟨3, Nat.le_of_not_lt h2, h⟩
theorem z_cov : (Finset.univ : Finset (Fin 4)).biUnion (fun t => (zR t).set) = Finset.univ :=
  cut_cov (s := S512x8192) 1 (fun t => ![0, zo t]) (fun _ => ![512, 2048]) z_inb (by decide) (fun j h => z_find j h)

/-- What the strips hold after all eight products. -/
def strip : (t : Fin 6) → (sR t).shape.Idx → Elt F .f32
  | 0 => valA X W c 0 7
  | 1 => valA X W c 1 7
  | 2 => valB X W c 0 0 7
  | 3 => valB X W c 0 1 7
  | 4 => valB X W c 1 0 7
  | 5 => valB X W c 1 1 7

/-- The strip a place lies in, and the place there. -/
theorem s_place (i : S512x8192.Idx) : ∃ (t : Fin 6) (j : (sR t).shape.Idx), (sR t).emb j = i := by
  have hi : i ∈ (Finset.univ : Finset (Fin 6)).biUnion (fun t => (sR t).set) := by rw [s_cov]; exact Finset.mem_univ i
  obtain ⟨t, -, ht⟩ := Finset.mem_biUnion.mp hi
  exact ⟨t, (sR t).exists_idx_of_mem ht⟩
/-- The products' sum, all strips together. -/
def preV (i : S512x8192.Idx) : Elt F .f32 := strip X W c (s_place i).choose (s_place i).choose_spec.choose
theorem preV_emb (t : Fin 6) (j : (sR t).shape.Idx) : preV X W c ((sR t).emb j) = strip X W c t j := by
  have h := (s_place ((sR t).emb j)).choose_spec.choose_spec
  have key : ∀ (t' : Fin 6) (j' : (sR t').shape.Idx), (sR t').emb j' = (sR t).emb j → strip X W c t' j' = strip X W c t j := by
    intro t' j' e
    have ht : t' = t := by
      by_contra hne
      have e' : (sR t').idx j' = (sR t).idx j := e
      exact Finset.disjoint_left.mp (s_disj t' t hne) ((sR t').idx_mem j') (e'.symm ▸ (sR t).idx_mem j)
    subst ht
    rw [(sR t').emb.injective e]
  exact key _ _ h

/-- The output: the products' sum times the scale. -/
def outV (s : F .f32) : S512x8192.Idx → Elt F .f32 := mulf (preV X W c) (broadcast S512x8192 s)

/-- The six strips are the four slices. -/
theorem out_slices : owns (c : Thread nD τ) o00 fullShare (valA X W c 0 7)
    ⊢ iprop(owns (c : Thread nD τ) o01 fullShare (valA X W c 1 7) -∗ owns (c : Thread nD τ) o10 fullShare (valB X W c 0 0 7)
      -∗ owns (c : Thread nD τ) o11 fullShare (valB X W c 0 1 7) -∗ owns (c : Thread nD τ) o20 fullShare (valB X W c 1 0 7)
      -∗ owns (c : Thread nD τ) o21 fullShare (valB X W c 1 1 7)
      -∗ ((owns (c : Thread nD τ) (oM.slice (zR 0) (fun _ => rfl)) fullShare (fun j => preV X W c ((zR 0).emb j)) : sProp 𝕄)
        ∗ (owns (c : Thread nD τ) (oM.slice (zR 1) (fun _ => rfl)) fullShare (fun j => preV X W c ((zR 1).emb j)) : sProp 𝕄)
        ∗ (owns (c : Thread nD τ) (oM.slice (zR 2) (fun _ => rfl)) fullShare (fun j => preV X W c ((zR 2).emb j)) : sProp 𝕄)
        ∗ (owns (c : Thread nD τ) (oM.slice (zR 3) (fun _ => rfl)) fullShare (fun j => preV X W c ((zR 3).emb j)) : sProp 𝕄))) := by
  have hj := owns_of_rects (Ix := Unit) (Name := ℕ) (U := UU) (Lvl := ℕ) (Val := Elt F) (c : Thread nD τ) oM fullShare sR (fun _ _ => rfl) s_disj s_cov (preV X W c)
  have hs := owns_rects (Ix := Unit) (Name := ℕ) (U := UU) (Lvl := ℕ) (Val := Elt F) (c : Thread nD τ) oM fullShare zR (fun _ _ => rfl) z_disj z_cov (preV X W c)
  rw [bigSep_congr (fun t _ => congrArg (owns (c : Thread nD τ) (oM.slice (sR t) fun _ => rfl) fullShare) (funext fun j => preV_emb X W c t j)),
    BI.bigSep_univ_eq_bigSepL [(0 : Fin 6), 1, 2, 3, 4, 5] (by decide) (by decide)] at hj
  rw [BI.bigSep_univ_eq_bigSepL [(0 : Fin 4), 1, 2, 3] (by decide) (by decide)] at hs
  iintro H0 H1 H2 H3 H4 H5
  have hj : iprop(owns (c : Thread nD τ) o00 fullShare (valA X W c 0 7) ∗ owns (c : Thread nD τ) o01 fullShare (valA X W c 1 7) ∗ owns (c : Thread nD τ) o10 fullShare (valB X W c 0 0 7)
      ∗ owns (c : Thread nD τ) o11 fullShare (valB X W c 0 1 7) ∗ owns (c : Thread nD τ) o20 fullShare (valB X W c 1 0 7) ∗ owns (c : Thread nD τ) o21 fullShare (valB X W c 1 1 7))
    ⊢ (owns (c : Thread nD τ) oM fullShare (preV X W c) : sProp 𝕄) := hj
  have hs : (owns (c : Thread nD τ) oM fullShare (preV X W c) : sProp 𝕄)
    ⊢ iprop((owns (c : Thread nD τ) (oM.slice (zR 0) (fun _ => rfl)) fullShare (fun j => preV X W c ((zR 0).emb j)) : sProp 𝕄)
        ∗ (owns (c : Thread nD τ) (oM.slice (zR 1) (fun _ => rfl)) fullShare (fun j => preV X W c ((zR 1).emb j)) : sProp 𝕄)
        ∗ (owns (c : Thread nD τ) (oM.slice (zR 2) (fun _ => rfl)) fullShare (fun j => preV X W c ((zR 2).emb j)) : sProp 𝕄)
        ∗ (owns (c : Thread nD τ) (oM.slice (zR 3) (fun _ => rfl)) fullShare (fun j => preV X W c ((zR 3).emb j)) : sProp 𝕄)) := hs
  iapply (hj.trans hs)
  isplitl [H0]; · iexact H0
  isplitl [H1]; · iexact H1
  isplitl [H2]; · iexact H2
  isplitl [H3]; · iexact H3
  isplitl [H4]; · iexact H4
  iexact H5

/-- The four slices scaled are the output. -/
theorem out_join (s : F .f32) : (owns (c : Thread nD τ) (oM.slice (zR 0) (fun _ => rfl)) fullShare (k0_pay56 s (fun j => preV X W c ((zR 0).emb j))) : sProp 𝕄)
    ⊢ iprop((owns (c : Thread nD τ) (oM.slice (zR 1) (fun _ => rfl)) fullShare (k0_pay56 s (fun j => preV X W c ((zR 1).emb j))) : sProp 𝕄)
      -∗ (owns (c : Thread nD τ) (oM.slice (zR 2) (fun _ => rfl)) fullShare (k0_pay56 s (fun j => preV X W c ((zR 2).emb j))) : sProp 𝕄)
      -∗ (owns (c : Thread nD τ) (oM.slice (zR 3) (fun _ => rfl)) fullShare (k0_pay56 s (fun j => preV X W c ((zR 3).emb j))) : sProp 𝕄)
      -∗ owns (c : Thread nD τ) oM fullShare (outV X W c s)) := by
  have hj := owns_of_rects (Ix := Unit) (Name := ℕ) (U := UU) (Lvl := ℕ) (Val := Elt F) (c : Thread nD τ) oM fullShare zR (fun _ _ => rfl) z_disj z_cov (outV X W c s)
  have key : ∀ t : Fin 4, (fun j => outV X W c s ((zR t).emb j)) = k0_pay56 s (fun j => preV X W c ((zR t).emb j)) := by
    intro t
    unfold k0_pay56
    rw [Idealize.ShloMosaic.shapeCast_self]
    rfl
  rw [bigSep_congr (fun t _ => congrArg (owns (c : Thread nD τ) (oM.slice (zR t) fun _ => rfl) fullShare) (key t)),
    BI.bigSep_univ_eq_bigSepL [(0 : Fin 4), 1, 2, 3] (by decide) (by decide)] at hj
  have hj : iprop((owns (c : Thread nD τ) (oM.slice (zR 0) (fun _ => rfl)) fullShare (k0_pay56 s (fun j => preV X W c ((zR 0).emb j))) : sProp 𝕄)
      ∗ (owns (c : Thread nD τ) (oM.slice (zR 1) (fun _ => rfl)) fullShare (k0_pay56 s (fun j => preV X W c ((zR 1).emb j))) : sProp 𝕄)
      ∗ (owns (c : Thread nD τ) (oM.slice (zR 2) (fun _ => rfl)) fullShare (k0_pay56 s (fun j => preV X W c ((zR 2).emb j))) : sProp 𝕄)
      ∗ (owns (c : Thread nD τ) (oM.slice (zR 3) (fun _ => rfl)) fullShare (k0_pay56 s (fun j => preV X W c ((zR 3).emb j))) : sProp 𝕄))
    ⊢ (owns (c : Thread nD τ) oM fullShare (outV X W c s) : sProp 𝕄) := hj
  iintro H0 H1 H2 H3
  iapply hj
  isplitl [H0]; · iexact H0
  isplitl [H1]; · iexact H1
  isplitl [H2]; · iexact H2
  iexact H3

end Out

end Cert.KernelIdeal.Hyper

end
-- ==== Proof.SegE.lean ====
/-
# `01_k` — the last products, the scaling and the exit
-/
module

public import proofs.«01_k».proof.Proof.Out
public import proofs.«01_k».proof.Proof.SegA

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Seg

variable (X : Dev nD → (cc0_stg0_0 : Ref sig .tc).ty.Contents (Elt F)) (W : Dev nD → (cc0_stg1_0 : Ref sig .tc).ty.Contents (Elt F))
variable (K : Dev nD × CI → ℕ) (c : Dev nD)

set_option maxHeartbeats 4000000 in
/-- Parts 44 to the end: the other products of the third stage's pieces, the scaling, the row blocks' sends and the exit. -/
theorem segE {α : Type} {Q : α → sProp 𝕄} (v2 : BitVec 32) (s : F .f32) {kk : Prog (TpuEff nD τ sig (Elt F) Λ₀ .tc) α} :
    ctx X W K ⊢ iprop(Due (F := F) c (items.drop 35)
      -∗ hasB W c 0 2 0 fullShare -∗ hasB W c 0 2 1 fullShare -∗ hasB W c 0 2 2 fullShare -∗ hasB W c 0 2 3 fullShare -∗ hasB W c 1 2 0 fullShare -∗ hasB W c 1 2 1 fullShare -∗ hasB W c 1 2 2 fullShare -∗ hasB W c 1 2 3 fullShare -∗ hasB W c 2 2 0 fullShare -∗ hasB W c 2 2 1 fullShare -∗ hasB W c 2 2 2 fullShare -∗ hasB W c 2 2 3 fullShare
      -∗ xrAll X c
      -∗ owns (c : Thread nD τ) o00 fullShare (valA X W c 0 4) -∗ owns (c : Thread nD τ) o01 fullShare (valA X W c 1 4)
      -∗ owns (c : Thread nD τ) o10 fullShare (valB X W c 0 0 3) -∗ owns (c : Thread nD τ) o11 fullShare (valB X W c 0 1 3)
      -∗ owns (c : Thread nD τ) o20 fullShare (valB X W c 1 0 3) -∗ owns (c : Thread nD τ) o21 fullShare (valB X W c 1 1 3)
      -∗ WS X W c (.sa 1) 0 -∗ C1 c (.sa 1) -∗ WS X W c (.sa 2) 0 -∗ C1 c (.sa 2) -∗ WS X W c (.sa 3) 0 -∗ C1 c (.sa 3) -∗ WS X W c (.sa 4) 0 -∗ C1 c (.sa 4) -∗ WS X W c (.sa 5) 0 -∗ C1 c (.sa 5) -∗ WS X W c (.sa 6) 0 -∗ C1 c (.sa 6) -∗ WS X W c (.sa 7) 0 -∗ C1 c (.sa 7)
      -∗ WS X W c .ex 0 -∗ cred (tallyAt (cell c .ex) () 7)
      -∗ (Due (F := F) c (items.drop 42)
        -∗ Dn c (.sa 1) -∗ hasX X c (sh c 1) -∗ Dn c (.sa 2) -∗ hasX X c (sh c 2) -∗ Dn c (.sa 3) -∗ hasX X c (sh c 3) -∗ Dn c (.sa 4) -∗ hasX X c (sh c 4) -∗ Dn c (.sa 5) -∗ hasX X c (sh c 5) -∗ Dn c (.sa 6) -∗ hasX X c (sh c 6) -∗ Dn c (.sa 7) -∗ hasX X c (sh c 7)
        -∗ Dn c .ex
        -∗ hasB W c 0 2 0 fullShare -∗ hasB W c 0 2 1 fullShare -∗ hasB W c 0 2 2 fullShare -∗ hasB W c 0 2 3 fullShare -∗ hasB W c 1 2 0 fullShare -∗ hasB W c 1 2 1 fullShare -∗ hasB W c 1 2 2 fullShare -∗ hasB W c 1 2 3 fullShare -∗ hasB W c 2 2 0 fullShare -∗ hasB W c 2 2 1 fullShare -∗ hasB W c 2 2 2 fullShare -∗ hasB W c 2 2 3 fullShare
        -∗ xrAll X c -∗ owns (c : Thread nD τ) oM fullShare (outV X W c s)
        -∗ wpc c kk Q)
      -∗ wpc c (ap (k0_part44 (F := F)) c v2 >>= fun v1067 => ap (k0_part45 (F := F)) c v2 v1067 >>= fun a => ap (k0_part46 (F := F)) c v2 a.1 a.2 >>= fun b =>
        ap (k0_part47 (F := F)) c v2 b.1 b.2 >>= fun v1133 => ap (k0_part48 (F := F)) c v2 v1133 >>= fun d => ap (k0_part49 (F := F)) c v2 d.1 d.2 >>= fun e =>
        ap (k0_part50 (F := F)) c v2 e.1 e.2 >>= fun v1221 => ap (k0_part51 (F := F)) c v2 v1221 >>= fun g => ap (k0_part52 (F := F)) c v2 g.1 g.2 >>= fun v1265 =>
        ap (k0_part53 (F := F)) s v1265 >>= fun v1302 => ap (k0_part54 (F := F)) c v1302 >>= fun _ => ap (k0_part55 (F := F)) c v2 >>= fun _ =>
        semSignalWord (⟨k0_dev40 c, k0_dev40_lt c⟩ : Dev nD) cc0_scoped0.sem 1#32 >>= fun _ =>
        semSignalWord (⟨k0_dev41 c, k0_dev41_lt c⟩ : Dev nD) cc0_scoped0.sem 1#32 >>= fun _ =>
        semSignalWord (⟨k0_dev42 c, k0_dev42_lt c⟩ : Dev nD) cc0_scoped0.sem 1#32 >>= fun _ =>
        semWaitWord cc0_scoped0.sem 7#32 >>= fun _ => kk) Q) := by
  rw [k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
  unfold k0_part44_skel k0_part45_skel k0_part46_skel k0_part47_skel k0_part48_skel k0_part49_skel k0_part50_skel k0_part51_skel k0_part52_skel k0_part53_skel k0_part54_skel k0_part55_skel
  simp only [ap, Prog.lift, Prog.bind_op, Prog.bind_ret, Prog.pure_eq_ret, semSignalWord, semWaitWord]
  iintro #HC HD Z00 Z10 Z20 Z30 Z01 Z11 Z21 Z31 Z02 Z12 Z22 Z32 HX O00 O01 O10 O11 O20 O21 S1 C1 S2 C2 S3 C3 S4 C4 S5 C5 S6 C6 S7 C7 E CE Hk
  iapply (st_mm X c (px c (rel 0 2 1)) (off6 c (rel 0 2 1)) (hl2 c 0 1 _ _) (hl2 c 0 1 _ _)) $$ HX Z10 O00 O01
  iintro HX Z10 O00 O01
  iapply (st_mm X c (px c (rel 0 2 2)) (off6 c (rel 0 2 2)) (hl2 c 0 2 _ _) (hl2 c 0 2 _ _)) $$ HX Z20 O00 O01
  iintro HX Z20 O00 O01
  iapply (st_mm X c (px c (rel 0 2 3)) (off6 c (rel 0 2 3)) (hl2 c 0 3 _ _) (hl2 c 0 3 _ _)) $$ HX Z30 O00 O01
  iintro HX Z30 O00 O01
  iapply (st_mm X c (px c (rel 1 2 0)) (off6 c (rel 1 2 0)) (hl2 c 1 0 _ _) (hl2 c 1 0 _ _)) $$ HX Z01 O10 O11
  iintro HX Z01 O10 O11
  iapply (st_mm X c (px c (rel 1 2 1)) (off6 c (rel 1 2 1)) (hl2 c 1 1 _ _) (hl2 c 1 1 _ _)) $$ HX Z11 O10 O11
  iintro HX Z11 O10 O11
  iapply (st_mm X c (px c (rel 1 2 2)) (off6 c (rel 1 2 2)) (hl2 c 1 2 _ _) (hl2 c 1 2 _ _)) $$ HX Z21 O10 O11
  iintro HX Z21 O10 O11
  iapply (st_mm X c (px c (rel 1 2 3)) (off6 c (rel 1 2 3)) (hl2 c 1 3 _ _) (hl2 c 1 3 _ _)) $$ HX Z31 O10 O11
  iintro HX Z31 O10 O11
  iapply (st_mm X c (px c (rel 2 2 0)) (off6 c (rel 2 2 0)) (hl2 c 2 0 _ _) (hl2 c 2 0 _ _)) $$ HX Z02 O20 O21
  iintro HX Z02 O20 O21
  iapply (st_mm X c (px c (rel 2 2 1)) (off6 c (rel 2 2 1)) (hl2 c 2 1 _ _) (hl2 c 2 1 _ _)) $$ HX Z12 O20 O21
  iintro HX Z12 O20 O21
  iapply (st_mm X c (px c (rel 2 2 2)) (off6 c (rel 2 2 2)) (hl2 c 2 2 _ _) (hl2 c 2 2 _ _)) $$ HX Z22 O20 O21
  iintro HX Z22 O20 O21
  iapply (st_mm X c (px c (rel 2 2 3)) (off6 c (rel 2 2 3)) (hl2 c 2 3 _ _) (hl2 c 2 3 _ _)) $$ HX Z32 O20 O21
  iintro HX Z32 O20 O21
  ihave ⟨A0, A1, A2, A3⟩ := (out_slices X W c) $$ [O00] [O01] [O10] [O11] [O20] [O21]
  · iexact O00
  · iexact O01
  · iexact O10
  · iexact O11
  · iexact O20
  · iexact O21
  iapply (st_scale c) $$ A0
  iintro A0
  iapply (st_scale c) $$ A1
  iintro A1
  iapply (st_scale c) $$ A2
  iintro A2
  iapply (st_scale c) $$ A3
  iintro A3
  ihave HO := (out_join X W c s) $$ [A0] [A1] [A2] [A3]
  · iexact A0
  · iexact A1
  · iexact A2
  · iexact A3
  iapply (st_fin X W K c (items.drop 35) (.sa 1) 0 rfl rfl (paySa X W c 1 rfl) (fun _ => rfl)) $$ HC HD S1 C1
  iintro HD S1 X1
  iapply (st_fin X W K c (items.drop 35) (.sa 2) 0 rfl rfl (paySa X W c 2 rfl) (fun _ => rfl)) $$ HC HD S2 C2
  iintro HD S2 X2
  iapply (st_fin X W K c (items.drop 35) (.sa 3) 0 rfl rfl (paySa X W c 3 rfl) (fun _ => rfl)) $$ HC HD S3 C3
  iintro HD S3 X3
  iapply (st_fin X W K c (items.drop 35) (.sa 4) 0 rfl rfl (paySa X W c 4 rfl) (fun _ => rfl)) $$ HC HD S4 C4
  iintro HD S4 X4
  iapply (st_fin X W K c (items.drop 35) (.sa 5) 0 rfl rfl (paySa X W c 5 rfl) (fun _ => rfl)) $$ HC HD S5 C5
  iintro HD S5 X5
  iapply (st_fin X W K c (items.drop 35) (.sa 6) 0 rfl rfl (paySa X W c 6 rfl) (fun _ => rfl)) $$ HC HD S6 C6
  iintro HD S6 X6
  iapply (st_fin X W K c (items.drop 35) (.sa 7) 0 rfl rfl (paySa X W c 7 rfl) (fun _ => rfl)) $$ HC HD S7 C7
  iintro HD S7 X7
  iapply (st_sig X W K c (items.drop 35) (items.drop 36) .ex 1 rfl (by revert c; decide) rfl (by decide) rfl) $$ HC HD []
  · iempintro
  iintro HD
  iapply (st_sig X W K c (items.drop 36) (items.drop 37) .ex 2 rfl (by revert c; decide) rfl (by decide) rfl) $$ HC HD []
  · iempintro
  iintro HD
  iapply (st_sig X W K c (items.drop 37) (items.drop 38) .ex 3 rfl (by revert c; decide) rfl (by decide) rfl) $$ HC HD []
  · iempintro
  iintro HD
  iapply (st_sig X W K c (items.drop 38) (items.drop 39) .ex 4 rfl (by revert c; decide) rfl (by decide) rfl) $$ HC HD []
  · iempintro
  iintro HD
  iapply (st_sig X W K c (items.drop 39) (items.drop 40) .ex 5 rfl (by revert c; decide) rfl (by decide) rfl) $$ HC HD []
  · iempintro
  iintro HD
  iapply (st_sig X W K c (items.drop 40) (items.drop 41) .ex 6 rfl (by revert c; decide) rfl (by decide) rfl) $$ HC HD []
  · iempintro
  iintro HD
  iapply (st_sig X W K c (items.drop 41) (items.drop 42) .ex 7 rfl (by revert c; decide) rfl (by decide) rfl) $$ HC HD []
  · iempintro
  iintro HD
  iapply (st_fin7 X W K c (items.drop 42) .ex rfl rfl (fun _ => rfl)) $$ HC HD E CE
  iintro HD E -
  iapply Hk $$ HD S1 X1 S2 X2 S3 X3 S4 X4 S5 X5 S6 X6 S7 X7 E Z00 Z10 Z20 Z30 Z01 Z11 Z21 Z31 Z02 Z12 Z22 Z32 HX HO

end Seg

end Cert.KernelIdeal.Hyper

end
-- ==== Proof.Core.lean ====
/-
# `01_k` — the whole body of one device
-/
module

public import proofs.«01_k».proof.Proof.Chain
public import proofs.«01_k».proof.Proof.SegA
public import proofs.«01_k».proof.Proof.SegB
public import proofs.«01_k».proof.Proof.SegC
public import proofs.«01_k».proof.Proof.SegD
public import proofs.«01_k».proof.Proof.SegE

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells of a device that are used, and what a device holds before and after its body -/

/-- A family over the cells that are used. -/
abbrev over (f : CI → sProp 𝕄) : sProp 𝕄 :=
  iprop(f .bar ∗ f .ex ∗ f (.sa 1) ∗ f (.sa 2) ∗ f (.sa 3) ∗ f (.sa 4) ∗ f (.sa 5) ∗ f (.sa 6) ∗ f (.sa 7)
    ∗ f (.ra 1) ∗ f (.ra 2) ∗ f (.ra 3) ∗ f (.ra 4) ∗ f (.ra 5) ∗ f (.ra 6) ∗ f (.ra 7) ∗ f (.ss 0 0) ∗ f (.ss 1 0)
    ∗ f (.ss 2 0) ∗ f (.ss 0 1) ∗ f (.ss 1 1) ∗ f (.ss 2 1) ∗ f (.ss 0 2) ∗ f (.ss 1 2) ∗ f (.ss 2 2) ∗ f (.rs 0 0) ∗ f (.rs 1 0)
    ∗ f (.rs 2 0) ∗ f (.rs 0 1) ∗ f (.rs 1 1) ∗ f (.rs 2 1) ∗ f (.rs 0 2) ∗ f (.rs 1 2) ∗ f (.rs 2 2))

omit [FloatOps F] in
/-- A family over all cells: the two cells never used, and the rest. -/
theorem over_univ (f : CI → sProp 𝕄) : (bigSep Finset.univ f : sProp 𝕄) = iprop(f (.sa 0) ∗ f (.ra 0) ∗ over f) := by
  rw [BI.bigSep_univ_eq_bigSepL [.sa 0, .ra 0, .bar, .ex, .sa 1, .sa 2, .sa 3, .sa 4, .sa 5, .sa 6, .sa 7, .ra 1
    , .ra 2, .ra 3, .ra 4, .ra 5, .ra 6, .ra 7, .ss 0 0, .ss 1 0, .ss 2 0, .ss 0 1, .ss 1 1, .ss 2 1
    , .ss 0 2, .ss 1 2, .ss 2 2, .rs 0 0, .rs 1 0, .rs 2 0, .rs 0 1, .rs 1 1, .rs 2 1, .rs 0 2, .rs 1 2, .rs 2 2] (by decide) (by decide)]; rfl

section Core

variable (X : Dev nD → (cc0_stg0_0 : Ref sig .tc).ty.Contents (Elt F)) (W : Dev nD → (cc0_stg1_0 : Ref sig .tc).ty.Contents (Elt F))
variable (K : Dev nD × CI → ℕ) (c : Dev nD)

/-- The credits a device waits with. -/
abbrev credsOf : sProp 𝕄 :=
  iprop(cred (tallyAt (cell c .bar) () 7) ∗ cred (tallyAt (cell c .ex) () 7) ∗ C1 c (.ra 1) ∗ C1 c (.ra 2) ∗ C1 c (.ra 3) ∗ C1 c (.ra 4)
    ∗ C1 c (.ra 5) ∗ C1 c (.ra 6) ∗ C1 c (.ra 7) ∗ C1 c (.rs 0 0) ∗ C1 c (.rs 1 0) ∗ C1 c (.rs 2 0)
    ∗ C1 c (.rs 0 1) ∗ C1 c (.rs 0 1) ∗ C1 c (.rs 1 1) ∗ C1 c (.rs 1 1) ∗ C1 c (.rs 2 1) ∗ C1 c (.rs 2 1)
    ∗ C1 c (.rs 0 2) ∗ C1 c (.rs 0 2) ∗ C1 c (.rs 0 2) ∗ C1 c (.rs 0 2) ∗ C1 c (.rs 1 2) ∗ C1 c (.rs 1 2)
    ∗ C1 c (.rs 1 2) ∗ C1 c (.rs 1 2) ∗ C1 c (.rs 2 2) ∗ C1 c (.rs 2 2) ∗ C1 c (.rs 2 2) ∗ C1 c (.rs 2 2))

/-- The row blocks of the first operand, the device's own first. -/
abbrev rows8 : sProp 𝕄 :=
  iprop(hasX X c c ∗ hasX X c (sh c 1) ∗ hasX X c (sh c 2) ∗ hasX X c (sh c 3) ∗ hasX X c (sh c 4) ∗ hasX X c (sh c 5) ∗ hasX X c (sh c 6) ∗ hasX X c (sh c 7))

/-- The three parts of the second operand, in four shares each. -/
abbrev parts12 : sProp 𝕄 :=
  iprop(hasW W c 0 0 ∗ hasW W c 1 0 ∗ hasW W c 2 0 ∗ hasW W c 0 1 ∗ hasW W c 1 1 ∗ hasW W c 2 1 ∗ hasW W c 0 2 ∗ hasW W c 1 2 ∗ hasW W c 2 2
    ∗ hasW W c 0 3 ∗ hasW W c 1 3 ∗ hasW W c 2 3)

/-- The nine copied buffers, landed: those of the first stage in the shares they were read in. -/
abbrev landed : sProp 𝕄 :=
  iprop(hasB W c 0 0 0 fullShare.left.left ∗ hasB W c 0 0 0 fullShare.left.right ∗ hasB W c 0 0 0 fullShare.right ∗ hasB W c 1 0 0 fullShare.left.left ∗ hasB W c 1 0 0 fullShare.left.right ∗ hasB W c 1 0 0 fullShare.right
    ∗ hasB W c 2 0 0 fullShare.left.left ∗ hasB W c 2 0 0 fullShare.left.right ∗ hasB W c 2 0 0 fullShare.right ∗ hasB W c 0 1 0 fullShare ∗ hasB W c 0 1 1 fullShare ∗ hasB W c 1 1 0 fullShare
    ∗ hasB W c 1 1 1 fullShare ∗ hasB W c 2 1 0 fullShare ∗ hasB W c 2 1 1 fullShare ∗ hasB W c 0 2 0 fullShare ∗ hasB W c 0 2 1 fullShare ∗ hasB W c 0 2 2 fullShare
    ∗ hasB W c 0 2 3 fullShare ∗ hasB W c 1 2 0 fullShare ∗ hasB W c 1 2 1 fullShare ∗ hasB W c 1 2 2 fullShare ∗ hasB W c 1 2 3 fullShare ∗ hasB W c 2 2 0 fullShare
    ∗ hasB W c 2 2 1 fullShare ∗ hasB W c 2 2 2 fullShare ∗ hasB W c 2 2 3 fullShare)

/-- The output's six strips, with some contents. -/
abbrev anyO : sProp 𝕄 :=
  iprop((∃ A, owns (c : Thread nD τ) o00 fullShare A) ∗ (∃ A, owns (c : Thread nD τ) o01 fullShare A) ∗ (∃ A, owns (c : Thread nD τ) o10 fullShare A)
    ∗ (∃ A, owns (c : Thread nD τ) o11 fullShare A) ∗ (∃ A, owns (c : Thread nD τ) o20 fullShare A) ∗ (∃ A, owns (c : Thread nD τ) o21 fullShare A))

/-- What the barrier's seven signals hand over. -/
abbrev handed : sProp 𝕄 :=
  iprop(give (F := F) c (sh c 1) ∗ give (F := F) c (sh c 2) ∗ give (F := F) c (sh c 3) ∗ give (F := F) c (sh c 4) ∗ give (F := F) c (sh c 5) ∗ give (F := F) c (sh c 6) ∗ give (F := F) c (sh c 7))

theorem wpc_ret {α : Type} {Q : α → sProp 𝕄} (a : α) : Q a ⊢ wpc c (.ret a) Q := by
  show Q a ⊢ wp frame (wpE (defs₀ (F := F)) Variants.none (c : Thread nD τ) none) Set.univ (.ret a) Q
  rw [wp_ret]
  iintro H
  imodintro
  iexact H

set_option maxHeartbeats 4000000 in
/-- The whole body of one device: from its buffers in pieces and its tokens to every cell drained, the operands back and the output computed. -/
theorem core {Q : PUnit → sProp 𝕄} (SX SW : S1.Idx → Elt F .f32) (own : S512x512.Idx → Elt F .fp8e5m2) :
    ctx X W K ⊢ iprop(Due (F := F) c items -∗ over (fun k => WS X W c k 0) -∗ credsOf (F := F) c -∗ handed (F := F) c -∗ rows8 X c
      -∗ owns (c : Thread nD τ) (xrB c) fullShare own -∗ owns (c : Thread nD τ) xsM fullShare SX -∗ owns (c : Thread nD τ) wsM fullShare SW
      -∗ parts12 W c -∗ anyO (F := F) c
      -∗ (Due (F := F) c (items.drop 42) -∗ over (fun k => Dn (F := F) c k) -∗ rows8 X c -∗ xrAll X c
        -∗ owns (c : Thread nD τ) xsM fullShare SX -∗ owns (c : Thread nD τ) wsM fullShare SW -∗ parts12 W c -∗ landed W c
        -∗ owns (c : Thread nD τ) oM fullShare (outV X W c (k0_pay2 (sc SX) (sc SW))) -∗ Q ⟨⟩)
      -∗ wpc c (ap (cc0_body (F := F))) Q) := by
  rw [body_chain]
  iintro #HC HD ⟨Wbar, Wex, Wsa1, Wsa2, Wsa3, Wsa4, Wsa5, Wsa6, Wsa7, Wra1, Wra2, Wra3, Wra4, Wra5, Wra6, Wra7, Wss00, Wss10, Wss20, Wss01, Wss11, Wss21, Wss02, Wss12, Wss22, Wrs00, Wrs10, Wrs20, Wrs01, Wrs11, Wrs21, Wrs02, Wrs12, Wrs22⟩ ⟨Cbar, Cex, Cra1, Cra2, Cra3, Cra4, Cra5, Cra6, Cra7, Crs00a, Crs10a, Crs20a, Crs01a, Crs01b, Crs11a, Crs11b, Crs21a, Crs21b, Crs02a, Crs02b, Crs02c, Crs02d, Crs12a, Crs12b, Crs12c, Crs12d, Crs22a, Crs22b, Crs22c, Crs22d⟩ ⟨G1, G2, G3, G4, G5, G6, G7⟩ ⟨Xc, X1, X2, X3, X4, X5, X6, X7⟩ Xo MX MW ⟨P00, P10, P20, P01, P11, P21, P02, P12, P22, P03, P13, P23⟩ ⟨O00, O01, O10, O11, O20, O21⟩ Hk
  iapply (segA X W K c SX SW own) $$ HC HD Wbar Cbar G1 G2 G3 G4 G5 G6 G7 X1 X2 X3 X4 X5 X6 X7 Xc Xo MX MW P00
  iintro HD Dbar Csa1 Csa2 Csa3 Csa4 Csa5 Csa6 Csa7 Css00 Xc Xo MX MW T10 T20 T01 T11 T21 T02 T12 T22 %v2 %v3 %v24 %w %v128 %v139
  dsimp only
  iapply (segB X W K c v2 v128) $$ HC HD P10 T10 P20 T20 Wra1 Cra1 Wra2 Cra2 Wra3 Cra3 Wra4 Cra4 Wra5 Cra5 Wra6 Cra6 Wra7 Cra7 Xo P03 P13 P23 O00 O01 O10 O11 O20 O21
  iintro HD Css10 Css20 Dra1 Dra2 Dra3 Dra4 Dra5 Dra6 Dra7 HX P03 P13 P23 HO %v150
  iapply (segC X W K c v139 v150 v2) $$ HC HD Wrs00 Crs00a Wrs10 Crs10a Wrs20 Crs20a Wss00 Css00 Wss10 Css10 Wss20 Css20 P01 T01 P11 T11 P21 T21 Wrs01 Crs01a Crs01b Wrs11 Crs11a Crs11b Wrs21 Crs21a Crs21b Wss01 Wss11 Wss21 HX HO
  iintro HD Drs00 Drs10 Drs20 Dss00 Dss10 Dss20 Drs01 Drs11 Drs21 Dss01 Dss11 Dss21 P00 P10 P20 P01 P11 P21 B00a B00b B00c B10a B10b B10c B20a B20b B20c B010 B011 B110 B111 B210 B211 HX HO %v543
  iapply (segD X W K c v2 v543) $$ HC HD P02 B00b B010 B011 T02 P12 B10b B110 B111 T12 P22 B20b B210 B211 T22 Wrs02 Crs02a Crs02b Crs02c Crs02d Wrs12 Crs12a Crs12b Crs12c Crs12d Wrs22 Crs22a Crs22b Crs22c Crs22d Wss02 Wss12 Wss22 HX HO
  iintro HD Drs02 Drs12 Drs22 Dss02 Dss12 Dss22 P02 B00b B010 B011 P12 B10b B110 B111 P22 B20b B210 B211 B020 B021 B022 B023 B120 B121 B122 B123 B220 B221 B222 B223 HX O00 O01 O10 O11 O20 O21
  iapply (segE X W K c v2 (k0_pay2 (sc SX) (sc SW))) $$ HC HD B020 B021 B022 B023 B120 B121 B122 B123 B220 B221 B222 B223 HX O00 O01 O10 O11 O20 O21 Wsa1 Csa1 Wsa2 Csa2 Wsa3 Csa3 Wsa4 Csa4 Wsa5 Csa5 Wsa6 Csa6 Wsa7 Csa7 Wex Cex
  iintro HD Dsa1 X1 Dsa2 X2 Dsa3 X3 Dsa4 X4 Dsa5 X5 Dsa6 X6 Dsa7 X7 Dex B020 B021 B022 B023 B120 B121 B122 B123 B220 B221 B222 B223 HX HO
  iapply (wpc_ret c PUnit.unit)
  iapply Hk $$ HD [Dbar Dex Dsa1 Dsa2 Dsa3 Dsa4 Dsa5 Dsa6 Dsa7 Dra1 Dra2 Dra3 Dra4 Dra5 Dra6 Dra7 Dss00 Dss10 Dss20 Dss01 Dss11 Dss21 Dss02 Dss12 Dss22 Drs00 Drs10 Drs20 Drs01 Drs11 Drs21 Drs02 Drs12 Drs22] [Xc X1 X2 X3 X4 X5 X6 X7] HX MX MW [P00 P10 P20 P01 P11 P21 P02 P12 P22 P03 P13 P23] [B00a B00b B00c B10a B10b B10c B20a B20b B20c B010 B011 B110 B111 B210 B211 B020 B021 B022 B023 B120 B121 B122 B123 B220 B221 B222 B223] HO
  · isplitl [Dbar]; · iexact Dbar
    isplitl [Dex]; · iexact Dex
    isplitl [Dsa1]; · iexact Dsa1
    isplitl [Dsa2]; · iexact Dsa2
    isplitl [Dsa3]; · iexact Dsa3
    isplitl [Dsa4]; · iexact Dsa4
    isplitl [Dsa5]; · iexact Dsa5
    isplitl [Dsa6]; · iexact Dsa6
    isplitl [Dsa7]; · iexact Dsa7
    isplitl [Dra1]; · iexact Dra1
    isplitl [Dra2]; · iexact Dra2
    isplitl [Dra3]; · iexact Dra3
    isplitl [Dra4]; · iexact Dra4
    isplitl [Dra5]; · iexact Dra5
    isplitl [Dra6]; · iexact Dra6
    isplitl [Dra7]; · iexact Dra7
    isplitl [Dss00]; · iexact Dss00
    isplitl [Dss10]; · iexact Dss10
    isplitl [Dss20]; · iexact Dss20
    isplitl [Dss01]; · iexact Dss01
    isplitl [Dss11]; · iexact Dss11
    isplitl [Dss21]; · iexact Dss21
    isplitl [Dss02]; · iexact Dss02
    isplitl [Dss12]; · iexact Dss12
    isplitl [Dss22]; · iexact Dss22
    isplitl [Drs00]; · iexact Drs00
    isplitl [Drs10]; · iexact Drs10
    isplitl [Drs20]; · iexact Drs20
    isplitl [Drs01]; · iexact Drs01
    isplitl [Drs11]; · iexact Drs11
    isplitl [Drs21]; · iexact Drs21
    isplitl [Drs02]; · iexact Drs02
    isplitl [Drs12]; · iexact Drs12
    iexact Drs22
  · isplitl [Xc]; · iexact Xc
    isplitl [X1]; · iexact X1
    isplitl [X2]; · iexact X2
    isplitl [X3]; · iexact X3
    isplitl [X4]; · iexact X4
    isplitl [X5]; · iexact X5
    isplitl [X6]; · iexact X6
    iexact X7
  · isplitl [P00]; · iexact P00
    isplitl [P10]; · iexact P10
    isplitl [P20]; · iexact P20
    isplitl [P01]; · iexact P01
    isplitl [P11]; · iexact P11
    isplitl [P21]; · iexact P21
    isplitl [P02]; · iexact P02
    isplitl [P12]; · iexact P12
    isplitl [P22]; · iexact P22
    isplitl [P03]; · iexact P03
    isplitl [P13]; · iexact P13
    iexact P23
  · isplitl [B00a]; · iexact B00a
    isplitl [B00b]; · iexact B00b
    isplitl [B00c]; · iexact B00c
    isplitl [B10a]; · iexact B10a
    isplitl [B10b]; · iexact B10b
    isplitl [B10c]; · iexact B10c
    isplitl [B20a]; · iexact B20a
    isplitl [B20b]; · iexact B20b
    isplitl [B20c]; · iexact B20c
    isplitl [B010]; · iexact B010
    isplitl [B011]; · iexact B011
    isplitl [B110]; · iexact B110
    isplitl [B111]; · iexact B111
    isplitl [B210]; · iexact B210
    isplitl [B211]; · iexact B211
    isplitl [B020]; · iexact B020
    isplitl [B021]; · iexact B021
    isplitl [B022]; · iexact B022
    isplitl [B023]; · iexact B023
    isplitl [B120]; · iexact B120
    isplitl [B121]; · iexact B121
    isplitl [B122]; · iexact B122
    isplitl [B123]; · iexact B123
    isplitl [B220]; · iexact B220
    isplitl [B221]; · iexact B221
    isplitl [B222]; · iexact B222
    iexact B223

end Core

end Cert.KernelIdeal.Hyper

end
-- ==== Proof.Pieces.lean ====
/-
# `01_k` — the buffers cut into pieces
-/
module

public import proofs.«01_k».proof.Proof.Core
public import Idealize.ShloMosaic.Lib.Ring

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers with some contents, cut into pieces and joined -/

section AnyCut

variable {ℓ : Loc nD τ sig} {B : Type} [Fintype B] [DecidableEq B] (I : B → Finset (Idx ℓ)) (hd : ∀ b b', b ≠ b' → Disjoint (I b) (I b'))

/-- The buffer's places outside the pieces, with some contents. -/
def others : sProp 𝕄 := iprop(∃ f : Buf (Elt F) ℓ, ℓ ↦[Finset.univ \ (Finset.univ : Finset B).biUnion I]{fullShare} f)

omit [FloatOps F] in
include hd in
theorem cut_out : (iprop(∃ f : Buf (Elt F) ℓ, ℓ ↦{fullShare} f) : sProp 𝕄)
    ⊢ iprop((bigSep Finset.univ fun b => iprop(∃ f : Buf (Elt F) ℓ, ℓ ↦[I b]{fullShare} f)) ∗ others (F := F) I) := by
  iintro ⟨%f, H⟩
  ihave ⟨H1, H2⟩ := (pointsTo_split_subset (Finset.subset_univ ((Finset.univ : Finset B).biUnion I))).1 $$ H
  have h1 : ∀ b ∈ (Finset.univ : Finset B), (ℓ ↦[I b]{fullShare} f : sProp 𝕄) ⊢ iprop(∃ f : Buf (Elt F) ℓ, ℓ ↦[I b]{fullShare} f) := fun b _ => by
    iintro H; iexists f; iexact H
  isplitl [H1]
  · iapply ((Entails.of_eq (Ring.pointsTo_sub_blocks I hd _ rfl (q := fullShare) f)).trans (bigSep_mono h1))
    iexact H1
  · unfold others
    iexists f; iexact H2

omit [FloatOps F] in
include hd in
theorem cut_in [∀ e, Nonempty (Elt F e)] : iprop((bigSep Finset.univ fun b => iprop(∃ f : Buf (Elt F) ℓ, ℓ ↦[I b]{fullShare} f)) ∗ others (F := F) I)
    ⊢ (iprop(∃ f : Buf (Elt F) ℓ, ℓ ↦{fullShare} f) : sProp 𝕄) := by
  have f₀ : Buf (Elt F) ℓ := fun _ => Classical.arbitrary _
  have hj := Ring.pointsTo_blocks_join_exists (Ix := Unit) (Name := ℕ) (U := UU) (Lvl := ℕ) (Val := Elt F) (q := fullShare) (ℓ := ℓ)
    (fun b : Bool => if b then (Finset.univ : Finset B).biUnion I else Finset.univ \ (Finset.univ : Finset B).biUnion I)
    (by
      intro b b' h
      cases b <;> cases b'
      · exact absurd rfl h
      · exact Finset.sdiff_disjoint
      · exact Finset.disjoint_sdiff
      · exact absurd rfl h)
    (by ext i; by_cases hi : i ∈ (Finset.univ : Finset B).biUnion I <;> simp [hi]) f₀
  rw [BI.bigSep_univ_eq_bigSepL [true, false] (by decide) (by decide)] at hj
  have hj : iprop((∃ f : Buf (Elt F) ℓ, ℓ ↦[(Finset.univ : Finset B).biUnion I]{fullShare} f) ∗ (∃ f : Buf (Elt F) ℓ, ℓ ↦[Finset.univ \ (Finset.univ : Finset B).biUnion I]{fullShare} f))
    ⊢ (iprop(∃ f : Buf (Elt F) ℓ, ℓ ↦{fullShare} f) : sProp 𝕄) := hj
  iintro ⟨H1, H2⟩
  iapply hj
  isplitl [H1]
  · iapply (Ring.pointsTo_sub_blocks_join_exists I hd _ rfl f₀); iexact H1
  · unfold others; iexact H2

end AnyCut

/-! ## The cuts of the operands -/

theorem rX_disj : ∀ t t' : Dev nD, t ≠ t' → Disjoint (rX t).set (rX t').set :=
  cut_disj (s := S4096x512) 0 (fun t : Dev nD => ![512 * t.val, 0]) (fun _ => S512x512.size) inbX (by decide)
theorem rX_cov : (Finset.univ : Finset (Dev nD)).biUnion (fun t => (rX t).set) = Finset.univ :=
  cut_cov (s := S4096x512) 0 (fun t : Dev nD => ![512 * t.val, 0]) (fun _ => S512x512.size) inbX (by decide) (fun j h => by
    have h : j < 4096 := h
    exact ⟨⟨j / 512, by show j / 512 < 8; omega⟩, by show 512 * (j / 512) ≤ j; omega, by show j < 512 * (j / 512) + 512; omega⟩)

/-- The parts' first columns and widths. -/
abbrev wo : Fin 3 → ℕ := ![0, 2816, 5504]
abbrev ww : Fin 3 → ℕ := ![2816, 2688, 2688]
theorem w_inb : ∀ (t : Fin 3) (b : Fin 2), (![0, wo t] : Fin 2 → ℕ) b + (![512, ww t] : Fin 2 → ℕ) b ≤ S512x8192.size b := by decide
abbrev wR (t : Fin 3) : Rect S512x8192 := Rect.unit ![0, wo t] ![512, ww t] (w_inb t)
theorem wR_disj : ∀ t t', t ≠ t' → Disjoint (wR t).set (wR t').set :=
  cut_disj (s := S512x8192) 1 (fun t => ![0, wo t]) (fun t => ![512, ww t]) w_inb (by decide)
theorem w_find (j : ℕ) (h : j < 8192) : ∃ t : Fin 3, wo t ≤ j ∧ j < wo t + ww t := by
  by_cases h0 : j < 2816; · exact ⟨0, Nat.zero_le _, h0⟩
  by_cases h1 : j < 5504; · exact ⟨1, Nat.le_of_not_lt h0, h1⟩
  exact ⟨2, Nat.le_of_not_lt h1, h⟩
theorem wR_cov : (Finset.univ : Finset (Fin 3)).biUnion (fun t => (wR t).set) = Finset.univ :=
  cut_cov (s := S512x8192) 1 (fun t => ![0, wo t]) (fun t => ![512, ww t]) w_inb (by decide) (fun j h => w_find j h)

section Pieces

variable (c : Dev nD)

/-- A piece with some contents. -/
abbrev anyM {sp : Space} {s : Shape} {e : EltTy} (m : Memref sig .tc sp s e) : sProp 𝕄 := iprop(∃ V, owns (c : Thread nD τ) m fullShare V)

omit [FloatOps F] in
theorem any_owns {sp : Space} {s : Shape} {e : EltTy} (m : Memref sig .tc sp s e) :
    (anyM (F := F) c m : sProp 𝕄) = iprop(∃ f : Buf (Elt F) (m.view.loc (c : Thread nD τ)), m.view.loc (c : Thread nD τ) ↦[m.view.set]{fullShare} f) := by
  have h1 : (anyM (F := F) c m : sProp 𝕄) ⊢ iprop(∃ f : Buf (Elt F) (m.view.loc (c : Thread nD τ)), m.view.loc (c : Thread nD τ) ↦[m.view.set]{fullShare} f) := by
    unfold anyM owns
    iintro ⟨%V, %f, -, H⟩
    iexists f; iexact H
  have h2 : (iprop(∃ f : Buf (Elt F) (m.view.loc (c : Thread nD τ)), m.view.loc (c : Thread nD τ) ↦[m.view.set]{fullShare} f) : sProp 𝕄) ⊢ anyM (F := F) c m := by
    unfold anyM owns
    iintro ⟨%f, H⟩
    iexists (m.view.read (Elt F) f), f
    isplitr
    · ipureintro; rfl
    iexact H
  exact BI.Entails.antisymm h1 h2

/-- A part's width. -/
abbrev wd : Fin 3 → ℕ := ![2816, 2688, 2688]
theorem inb0 : ∀ (x : Fin 3) (a : Fin 3), (![x.val, 0, 0] : Fin 3 → ℕ) a + (![1, 512, wd x] : Fin 3 → ℕ) a ≤ S3x512x2816.size a := by decide
theorem inb1 : ∀ (x : Fin 3 × Fin 2) (a : Fin 3), (![x.1.val, 512 * x.2.val, 0] : Fin 3 → ℕ) a + (![1, 512, wd x.1] : Fin 3 → ℕ) a ≤ S3x1024x2816.size a := by decide
theorem inb2 : ∀ (x : Fin 3 × Fin 4) (a : Fin 3), (![x.1.val, 512 * x.2.val, 0] : Fin 3 → ℕ) a + (![1, 512, wd x.1] : Fin 3 → ℕ) a ≤ S3x2048x2816.size a := by decide

/-- The places of the pieces in each buffer. -/
def I0 (x : Fin 3) : Finset (Idx ((c : Thread nD τ).loc cc0_scratch1)) := (Rect.unit (s := S3x512x2816) ![x.val, 0, 0] ![1, 512, wd x] (inb0 x)).set
def I1 (x : Fin 3 × Fin 2) : Finset (Idx ((c : Thread nD τ).loc cc0_scratch2)) := (Rect.unit (s := S3x1024x2816) ![x.1.val, 512 * x.2.val, 0] ![1, 512, wd x.1] (inb1 x)).set
def I2 (x : Fin 3 × Fin 4) : Finset (Idx ((c : Thread nD τ).loc cc0_scratch3)) := (Rect.unit (s := S3x2048x2816) ![x.1.val, 512 * x.2.val, 0] ![1, 512, wd x.1] (inb2 x)).set
def IR (e : Dev nD) : Finset (Idx ((c : Thread nD τ).loc cc0_scratch0)) := (rC e).set

theorem I0_disj (x y : Fin 3) (h : x ≠ y) : Disjoint (I0 c x) (I0 c y) := by
  refine Rect.unit_disjoint 0 ?_
  revert x y; decide
theorem far1 : ∀ x y : Fin 3 × Fin 2, x ≠ y → ∃ a : Fin 3, (![x.1.val, 512 * x.2.val, 0] : Fin 3 → ℕ) a + (![1, 512, wd x.1] : Fin 3 → ℕ) a ≤ (![y.1.val, 512 * y.2.val, 0] : Fin 3 → ℕ) a
    ∨ (![y.1.val, 512 * y.2.val, 0] : Fin 3 → ℕ) a + (![1, 512, wd y.1] : Fin 3 → ℕ) a ≤ (![x.1.val, 512 * x.2.val, 0] : Fin 3 → ℕ) a := by decide
theorem far2 : ∀ x y : Fin 3 × Fin 4, x ≠ y → ∃ a : Fin 3, (![x.1.val, 512 * x.2.val, 0] : Fin 3 → ℕ) a + (![1, 512, wd x.1] : Fin 3 → ℕ) a ≤ (![y.1.val, 512 * y.2.val, 0] : Fin 3 → ℕ) a
    ∨ (![y.1.val, 512 * y.2.val, 0] : Fin 3 → ℕ) a + (![1, 512, wd y.1] : Fin 3 → ℕ) a ≤ (![x.1.val, 512 * x.2.val, 0] : Fin 3 → ℕ) a := by decide
theorem I1_disj (x y : Fin 3 × Fin 2) (h : x ≠ y) : Disjoint (I1 c x) (I1 c y) := by
  obtain ⟨a, ha⟩ := far1 x y h
  exact Rect.unit_disjoint a ha
theorem I2_disj (x y : Fin 3 × Fin 4) (h : x ≠ y) : Disjoint (I2 c x) (I2 c y) := by
  obtain ⟨a, ha⟩ := far2 x y h
  exact Rect.unit_disjoint a ha
theorem IR_disj (x y : Dev nD) (h : x ≠ y) : Disjoint (IR c x) (IR c y) := by
  refine Rect.unit_disjoint 1 ?_
  revert x y; decide

omit [FloatOps F] in
/-- A squeezed slice of a whole buffer with some contents is its places with some contents. -/
theorem any_slice {sp : Space} {s : Shape} {e : EltTy} (m : Memref sig .tc sp s e) (ℓ : Loc nD τ sig) (S : Finset (Idx ℓ)) (hl : m.view.loc (c : Thread nD τ) = ℓ) (hs : HEq m.view.set S) :
    (anyM (F := F) c m : sProp 𝕄) = iprop(∃ f : Buf (Elt F) ℓ, ℓ ↦[S]{fullShare} f) := by
  subst hl
  rw [any_owns, eq_of_heq hs]

omit [FloatOps F] in
theorem any_b0 (p : Fin 3) : (anyM (F := F) c (b0 p) : sProp 𝕄) = iprop(∃ f : Buf (Elt F) ((c : Thread nD τ).loc cc0_scratch1), ((c : Thread nD τ).loc cc0_scratch1) ↦[I0 c p]{fullShare} f) := by
  refine any_slice c _ _ _ (by match p with | 0 => rfl | 1 => rfl | 2 => rfl) ?_
  match p with
  | 0 => exact heq_of_eq ((View.set_reshape (View.slice (View.whole cc0_scratch1) _) _).trans (View.set_slice_whole cc0_scratch1 _))
  | 1 => exact heq_of_eq ((View.set_reshape (View.slice (View.whole cc0_scratch1) _) _).trans (View.set_slice_whole cc0_scratch1 _))
  | 2 => exact heq_of_eq ((View.set_reshape (View.slice (View.whole cc0_scratch1) _) _).trans (View.set_slice_whole cc0_scratch1 _))
omit [FloatOps F] in
theorem any_b1 (x : Fin 3 × Fin 2) : (anyM (F := F) c (b1 x.1 x.2) : sProp 𝕄) = iprop(∃ f : Buf (Elt F) ((c : Thread nD τ).loc cc0_scratch2), ((c : Thread nD τ).loc cc0_scratch2) ↦[I1 c x]{fullShare} f) := by
  obtain ⟨p, r⟩ := x
  refine any_slice c _ _ _ (by match p with | 0 => rfl | 1 => rfl | 2 => rfl) ?_
  match p with
  | 0 => exact heq_of_eq ((View.set_reshape (View.slice (View.whole cc0_scratch2) _) _).trans (View.set_slice_whole cc0_scratch2 _))
  | 1 => exact heq_of_eq ((View.set_reshape (View.slice (View.whole cc0_scratch2) _) _).trans (View.set_slice_whole cc0_scratch2 _))
  | 2 => exact heq_of_eq ((View.set_reshape (View.slice (View.whole cc0_scratch2) _) _).trans (View.set_slice_whole cc0_scratch2 _))
omit [FloatOps F] in
theorem any_b2 (x : Fin 3 × Fin 4) : (anyM (F := F) c (b2 x.1 x.2) : sProp 𝕄) = iprop(∃ f : Buf (Elt F) ((c : Thread nD τ).loc cc0_scratch3), ((c : Thread nD τ).loc cc0_scratch3) ↦[I2 c x]{fullShare} f) := by
  obtain ⟨p, r⟩ := x
  refine any_slice c _ _ _ (by match p with | 0 => rfl | 1 => rfl | 2 => rfl) ?_
  match p with
  | 0 => exact heq_of_eq ((View.set_reshape (View.slice (View.whole cc0_scratch3) _) _).trans (View.set_slice_whole cc0_scratch3 _))
  | 1 => exact heq_of_eq ((View.set_reshape (View.slice (View.whole cc0_scratch3) _) _).trans (View.set_slice_whole cc0_scratch3 _))
  | 2 => exact heq_of_eq ((View.set_reshape (View.slice (View.whole cc0_scratch3) _) _).trans (View.set_slice_whole cc0_scratch3 _))
omit [FloatOps F] in
theorem any_xr (e : Dev nD) : (anyM (F := F) c (xrB e) : sProp 𝕄) = iprop(∃ f : Buf (Elt F) ((c : Thread nD τ).loc cc0_scratch0), ((c : Thread nD τ).loc cc0_scratch0) ↦[IR c e]{fullShare} f) :=
  any_slice c _ _ _ rfl (heq_of_eq (View.set_slice_whole cc0_scratch0 _))

/-! ## The scratch buffers -/

/-- The four scratch buffers, each with some contents. -/
abbrev scratches : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- What is left of them beside the pieces. -/
def leftOver : sProp 𝕄 := iprop(others (F := F) (IR c) ∗ others (F := F) (I0 c) ∗ others (F := F) (I1 c) ∗ others (F := F) (I2 c))

/-- All pieces of the scratch buffers, each with some contents. -/
def pieces : sProp 𝕄 :=
  iprop((bigSep Finset.univ fun e : Dev nD => anyM (F := F) c (xrB e)) ∗ (bigSep Finset.univ fun p : Fin 3 => anyM (F := F) c (b0 p))
    ∗ (bigSep Finset.univ fun x : Fin 3 × Fin 2 => anyM (F := F) c (b1 x.1 x.2)) ∗ (bigSep Finset.univ fun x : Fin 3 × Fin 4 => anyM (F := F) c (b2 x.1 x.2)))

omit [FloatOps F] in
theorem scr_cut : scratches (F := F) c ⊢ iprop(pieces (F := F) c ∗ leftOver (F := F) c) := by
  unfold pieces leftOver
  rw [bigSep_congr fun e _ => any_xr (F := F) c e, bigSep_congr fun p _ => any_b0 (F := F) c p, bigSep_congr fun x _ => any_b1 (F := F) c x, bigSep_congr fun x _ => any_b2 (F := F) c x]
  iintro ⟨H0, H1, H2, H3⟩
  ihave ⟨P0, L0⟩ := (cut_out (F := F) (IR c) (IR_disj c)) $$ H0
  ihave ⟨P1, L1⟩ := (cut_out (F := F) (I0 c) (I0_disj c)) $$ H1
  ihave ⟨P2, L2⟩ := (cut_out (F := F) (I1 c) (I1_disj c)) $$ H2
  ihave ⟨P3, L3⟩ := (cut_out (F := F) (I2 c) (I2_disj c)) $$ H3
  isplitr [L0 L1 L2 L3]
  · isplitl [P0]; · iexact P0
    isplitl [P1]; · iexact P1
    isplitl [P2] <;> iassumption
  · isplitl [L0]; · iexact L0
    isplitl [L1]; · iexact L1
    isplitl [L2] <;> iassumption

theorem scr_join : iprop(pieces (F := F) c ∗ leftOver (F := F) c) ⊢ scratches (F := F) c := by
  unfold pieces leftOver
  rw [bigSep_congr fun e _ => any_xr (F := F) c e, bigSep_congr fun p _ => any_b0 (F := F) c p, bigSep_congr fun x _ => any_b1 (F := F) c x, bigSep_congr fun x _ => any_b2 (F := F) c x]
  iintro ⟨⟨P0, P1, P2, P3⟩, L0, L1, L2, L3⟩
  isplitl [P0 L0]
  · iapply (cut_in (F := F) (IR c) (IR_disj c)); isplitl [P0] <;> iassumption
  isplitl [P1 L1]
  · iapply (cut_in (F := F) (I0 c) (I0_disj c)); isplitl [P1] <;> iassumption
  isplitl [P2 L2]
  · iapply (cut_in (F := F) (I1 c) (I1_disj c)); isplitl [P2] <;> iassumption
  · iapply (cut_in (F := F) (I2 c) (I2_disj c)); isplitl [P3] <;> iassumption

omit [FloatOps F] in
theorem over3 (Φ : Fin 3 → sProp 𝕄) : (bigSep Finset.univ Φ : sProp 𝕄) = iprop(Φ 0 ∗ Φ 1 ∗ Φ 2) := by
  rw [BI.bigSep_univ_eq_bigSepL [0, 1, 2] (by decide) (by decide)]; rfl
omit [FloatOps F] in
theorem over32 (Φ : Fin 3 × Fin 2 → sProp 𝕄) : (bigSep Finset.univ Φ : sProp 𝕄) = iprop((Φ (0, 0) ∗ Φ (0, 1)) ∗ (Φ (1, 0) ∗ Φ (1, 1)) ∗ Φ (2, 0) ∗ Φ (2, 1)) := by
  rw [bigSep_univ_prod, over3]
  have h : ∀ p : Fin 3, (bigSep Finset.univ fun r : Fin 2 => Φ (p, r) : sProp 𝕄) = iprop(Φ (p, 0) ∗ Φ (p, 1)) := fun p => by
    rw [BI.bigSep_univ_eq_bigSepL [0, 1] (by decide) (by decide)]; rfl
  rw [h, h, h]
omit [FloatOps F] in
theorem over34 (Φ : Fin 3 × Fin 4 → sProp 𝕄) : (bigSep Finset.univ Φ : sProp 𝕄)
    = iprop((Φ (0, 0) ∗ Φ (0, 1) ∗ Φ (0, 2) ∗ Φ (0, 3)) ∗ (Φ (1, 0) ∗ Φ (1, 1) ∗ Φ (1, 2) ∗ Φ (1, 3)) ∗ Φ (2, 0) ∗ Φ (2, 1) ∗ Φ (2, 2) ∗ Φ (2, 3)) := by
  rw [bigSep_univ_prod, over3]
  have h : ∀ p : Fin 3, (bigSep Finset.univ fun r : Fin 4 => Φ (p, r) : sProp 𝕄) = iprop(Φ (p, 0) ∗ Φ (p, 1) ∗ Φ (p, 2) ∗ Φ (p, 3)) := fun p => by
    rw [BI.bigSep_univ_eq_bigSepL [0, 1, 2, 3] (by decide) (by decide)]; rfl
  rw [h, h, h]
omit [FloatOps F] in
/-- A family over the devices, counted round the ring from `c`. -/
theorem ring8 (Φ : Dev nD → sProp 𝕄) : (bigSep Finset.univ Φ : sProp 𝕄)
    = iprop(Φ c ∗ Φ (sh c 1) ∗ Φ (sh c 2) ∗ Φ (sh c 3) ∗ Φ (sh c 4) ∗ Φ (sh c 5) ∗ Φ (sh c 6) ∗ Φ (sh c 7)) := by
  rw [BI.bigSep_univ_eq_bigSepL [c, sh c 1, sh c 2, sh c 3, sh c 4, sh c 5, sh c 6, sh c 7] (by revert c; decide) (by revert c; decide)]; rfl

omit [FloatOps F] in
theorem to_any0 (p : Fin 3) : anyM (F := F) c (b0 p) ⊢ (bAny (F := F) c p 0 : sProp 𝕄) := ent_eq (by match p with | 0 => rfl | 1 => rfl | 2 => rfl)
omit [FloatOps F] in
theorem to_any1 (p : Fin 3) : iprop(anyM (F := F) c (b1 p 0) ∗ anyM (F := F) c (b1 p 1)) ⊢ (bAny (F := F) c p 1 : sProp 𝕄) := ent_eq (by match p with | 0 => rfl | 1 => rfl | 2 => rfl)
omit [FloatOps F] in
theorem to_any2 (p : Fin 3) : iprop(anyM (F := F) c (b2 p 0) ∗ anyM (F := F) c (b2 p 1) ∗ anyM (F := F) c (b2 p 2) ∗ anyM (F := F) c (b2 p 3)) ⊢ (bAny (F := F) c p 2 : sProp 𝕄) := ent_eq (by match p with | 0 => rfl | 1 => rfl | 2 => rfl)

/-- The pieces, cut for the barrier: what stays, and what each signal hands over. -/
theorem pieces_out : pieces (F := F) c ⊢ iprop(anyM (F := F) c (xrB c) ∗ handed (F := F) c) := by
  have hb := ent_eq (bar_out (F := F) c).symm
  rw [sep7, sep7, sep9] at hb
  unfold pieces
  rw [ring8 c, over3, over32, over34]
  iintro ⟨⟨X0, X1, X2, X3, X4, X5, X6, X7⟩, ⟨A0, A1, A2⟩, ⟨B0, B1, B2⟩, C0, C1, C2⟩
  isplitl [X0]; · iexact X0
  iapply hb
  isplitl [X1 X2 X3 X4 X5 X6 X7]
  · isplitl [X1]; · iexact X1
    isplitl [X2]; · iexact X2
    isplitl [X3]; · iexact X3
    isplitl [X4]; · iexact X4
    isplitl [X5]; · iexact X5
    isplitl [X6] <;> iassumption
  isplitl [A0]; · iapply (to_any0 (F := F) c 0); iexact A0
  isplitl [A1]; · iapply (to_any0 (F := F) c 1); iexact A1
  isplitl [A2]; · iapply (to_any0 (F := F) c 2); iexact A2
  isplitl [B0]; · iapply (to_any1 (F := F) c 0); iexact B0
  isplitl [B1]; · iapply (to_any1 (F := F) c 1); iexact B1
  isplitl [B2]; · iapply (to_any1 (F := F) c 2); iexact B2
  isplitl [C0]; · iapply (to_any2 (F := F) c 0); iexact C0
  isplitl [C1]; · iapply (to_any2 (F := F) c 1); iexact C1
  iapply (to_any2 (F := F) c 2); iexact C2

variable (X : Dev nD → (cc0_stg0_0 : Ref sig .tc).ty.Contents (Elt F)) (W : Dev nD → (cc0_stg1_0 : Ref sig .tc).ty.Contents (Elt F))

omit [FloatOps F] in
theorem hasB_any (p t : Fin 3) (r : Fin 8) : hasB W c p t r fullShare ⊢ (anyM (F := F) c (bM p t r) : sProp 𝕄) := by
  iintro H; iexists _; iexact H
omit [FloatOps F] in
theorem hasB_join (p t : Fin 3) (r : Fin 8) : (hasB W c p t r fullShare.left.left : sProp 𝕄)
    ⊢ iprop(hasB W c p t r fullShare.left.right -∗ hasB W c p t r fullShare.right -∗ anyM (F := F) c (bM p t r)) := by
  iintro H1 H2 H3
  iapply (hasB_any c W p t r)
  iapply (join3 c (bM p t r) _)
  isplitl [H1]; · iexact H1
  isplitl [H2] <;> iassumption

/-- The pieces after the run. -/
theorem pieces_in : iprop(xrAll X c ∗ landed W c) ⊢ pieces (F := F) c := by
  have hx : xrAll X c ⊢ (bigSep Finset.univ fun e : Dev nD => anyM (F := F) c (xrB e) : sProp 𝕄) := by
    unfold xrAll
    have h : ∀ e ∈ (Finset.univ : Finset (Dev nD)), (owns (c : Thread nD τ) (xrB e) fullShare (xrow X e c) : sProp 𝕄) ⊢ anyM (F := F) c (xrB e) := fun e _ => by
      iintro H; iexists _; iexact H
    exact bigSep_mono h
  unfold pieces
  rw [over3, over32, over34]
  iintro ⟨HX, B00a, B00b, B00c, B10a, B10b, B10c, B20a, B20b, B20c, B010, B011, B110, B111, B210, B211, B020, B021, B022, B023, B120, B121, B122, B123, B220, B221, B222, B223⟩
  isplitl [HX]; · iapply hx; iexact HX
  isplitl [B00a B00b B00c B10a B10b B10c B20a B20b B20c]
  · isplitl [B00a B00b B00c]; · iapply (hasB_join c W 0 0 0) $$ B00a B00b B00c
    isplitl [B10a B10b B10c]; · iapply (hasB_join c W 1 0 0) $$ B10a B10b B10c
    iapply (hasB_join c W 2 0 0) $$ B20a B20b B20c
  isplitl [B010 B011 B110 B111 B210 B211]
  · isplitl [B010 B011]
    · isplitl [B010]; · iapply (hasB_any c W 0 1 0); iexact B010
      iapply (hasB_any c W 0 1 1); iexact B011
    isplitl [B110 B111]
    · isplitl [B110]; · iapply (hasB_any c W 1 1 0); iexact B110
      iapply (hasB_any c W 1 1 1); iexact B111
    isplitl [B210]; · iapply (hasB_any c W 2 1 0); iexact B210
    iapply (hasB_any c W 2 1 1); iexact B211
  · isplitl [B020 B021 B022 B023]
    · isplitl [B020]; · iapply (hasB_any c W 0 2 0); iexact B020
      isplitl [B021]; · iapply (hasB_any c W 0 2 1); iexact B021
      isplitl [B022]; · iapply (hasB_any c W 0 2 2); iexact B022
      iapply (hasB_any c W 0 2 3); iexact B023
    isplitl [B120 B121 B122 B123]
    · isplitl [B120]; · iapply (hasB_any c W 1 2 0); iexact B120
      isplitl [B121]; · iapply (hasB_any c W 1 2 1); iexact B121
      isplitl [B122]; · iapply (hasB_any c W 1 2 2); iexact B122
      iapply (hasB_any c W 1 2 3); iexact B123
    isplitl [B220]; · iapply (hasB_any c W 2 2 0); iexact B220
    isplitl [B221]; · iapply (hasB_any c W 2 2 1); iexact B221
    isplitl [B222]; · iapply (hasB_any c W 2 2 2); iexact B222
    iapply (hasB_any c W 2 2 3); iexact B223

/-! ## The operands and the output -/

omit [FloatOps F] in
theorem x_cut : owns (c : Thread nD τ) xM fullShare (X c) ⊢ (rows8 X c : sProp 𝕄) := by
  have h := owns_rects (Ix := Unit) (Name := ℕ) (U := UU) (Lvl := ℕ) (Val := Elt F) (c : Thread nD τ) xM fullShare rX (fun _ _ => rfl) rX_disj rX_cov (X c)
  rw [ring8 c] at h
  exact h
theorem x_join : rows8 X c ⊢ (owns (c : Thread nD τ) xM fullShare (X c) : sProp 𝕄) := by
  have h := owns_of_rects (Ix := Unit) (Name := ℕ) (U := UU) (Lvl := ℕ) (Val := Elt F) (c : Thread nD τ) xM fullShare rX (fun _ _ => rfl) rX_disj rX_cov (X c)
  rw [ring8 c] at h
  exact h

omit [FloatOps F] in
/-- A part held in full is its four shares. -/
theorem quarter (p : Fin 3) (V : (Sp p).Idx → Elt F .fp8e5m2) : owns (c : Thread nD τ) (wP p) fullShare V
    ⊢ (iprop(owns (c : Thread nD τ) (wP p) (qs 0) V ∗ owns (c : Thread nD τ) (wP p) (qs 1) V ∗ owns (c : Thread nD τ) (wP p) (qs 2) V ∗ owns (c : Thread nD τ) (wP p) (qs 3) V) : sProp 𝕄) := by
  iintro H
  ihave ⟨Hl, Hr⟩ := (halve c (wP p) fullShare V) $$ H
  ihave ⟨H0, H1⟩ := (halve c (wP p) fullShare.left V) $$ Hl
  ihave ⟨H2, H3⟩ := (halve c (wP p) fullShare.right V) $$ Hr
  isplitl [H0]; · iexact H0
  isplitl [H1]; · iexact H1
  isplitl [H2]; · iexact H2
  iexact H3
omit [FloatOps F] in
theorem unquarter (p : Fin 3) (V : (Sp p).Idx → Elt F .fp8e5m2) : owns (c : Thread nD τ) (wP p) (qs 0) V
    ⊢ (iprop(owns (c : Thread nD τ) (wP p) (qs 1) V -∗ owns (c : Thread nD τ) (wP p) (qs 2) V -∗ owns (c : Thread nD τ) (wP p) (qs 3) V -∗ owns (c : Thread nD τ) (wP p) fullShare V) : sProp 𝕄) := by
  iintro H0 H1 H2 H3
  iapply (unhalve c (wP p) fullShare V)
  isplitl [H0 H1]
  · iapply (unhalve c (wP p) fullShare.left V); isplitl [H0]; · iexact H0
    iexact H1
  · iapply (unhalve c (wP p) fullShare.right V); isplitl [H2]; · iexact H2
    iexact H3

omit [FloatOps F] in
theorem w_cut : owns (c : Thread nD τ) wM fullShare (W c) ⊢ (parts12 W c : sProp 𝕄) := by
  have h := owns_rects (Ix := Unit) (Name := ℕ) (U := UU) (Lvl := ℕ) (Val := Elt F) (c : Thread nD τ) wM fullShare wR (fun _ _ => rfl) wR_disj wR_cov (W c)
  rw [over3] at h
  have h : owns (c : Thread nD τ) wM fullShare (W c) ⊢ (iprop(owns (c : Thread nD τ) (wP 0) fullShare (wpart W 0 c) ∗ owns (c : Thread nD τ) (wP 1) fullShare (wpart W 1 c)
    ∗ owns (c : Thread nD τ) (wP 2) fullShare (wpart W 2 c)) : sProp 𝕄) := h
  iintro H
  ihave ⟨H0, H1, H2⟩ := h $$ H
  ihave ⟨A0, A1, A2, A3⟩ := (quarter c 0 _) $$ H0
  ihave ⟨B0, B1, B2, B3⟩ := (quarter c 1 _) $$ H1
  ihave ⟨C0, C1, C2, C3⟩ := (quarter c 2 _) $$ H2
  isplitl [A0]; · iexact A0
  isplitl [B0]; · iexact B0
  isplitl [C0]; · iexact C0
  isplitl [A1]; · iexact A1
  isplitl [B1]; · iexact B1
  isplitl [C1]; · iexact C1
  isplitl [A2]; · iexact A2
  isplitl [B2]; · iexact B2
  isplitl [C2]; · iexact C2
  isplitl [A3]; · iexact A3
  isplitl [B3] <;> iassumption
theorem w_join : parts12 W c ⊢ (owns (c : Thread nD τ) wM fullShare (W c) : sProp 𝕄) := by
  have h := owns_of_rects (Ix := Unit) (Name := ℕ) (U := UU) (Lvl := ℕ) (Val := Elt F) (c : Thread nD τ) wM fullShare wR (fun _ _ => rfl) wR_disj wR_cov (W c)
  rw [over3] at h
  have h : (iprop(owns (c : Thread nD τ) (wP 0) fullShare (wpart W 0 c) ∗ owns (c : Thread nD τ) (wP 1) fullShare (wpart W 1 c)
    ∗ owns (c : Thread nD τ) (wP 2) fullShare (wpart W 2 c)) : sProp 𝕄) ⊢ owns (c : Thread nD τ) wM fullShare (W c) := h
  iintro ⟨A0, B0, C0, A1, B1, C1, A2, B2, C2, A3, B3, C3⟩
  iapply h
  isplitl [A0 A1 A2 A3]; · iapply (unquarter c 0 _) $$ A0 A1 A2 A3
  isplitl [B0 B1 B2 B3]; · iapply (unquarter c 1 _) $$ B0 B1 B2 B3
  iapply (unquarter c 2 _) $$ C0 C1 C2 C3

omit [FloatOps F] in
theorem o_cut (V : S512x8192.Idx → Elt F .f32) : owns (c : Thread nD τ) oM fullShare V ⊢ (anyO (F := F) c : sProp 𝕄) := by
  have h := owns_rects (Ix := Unit) (Name := ℕ) (U := UU) (Lvl := ℕ) (Val := Elt F) (c : Thread nD τ) oM fullShare sR (fun _ _ => rfl) s_disj s_cov V
  have hm : ∀ t ∈ (Finset.univ : Finset (Fin 6)), (owns (c : Thread nD τ) (oM.slice (sR t) fun _ => rfl) fullShare (fun j => V ((sR t).emb j)) : sProp 𝕄)
      ⊢ anyM (F := F) c (oM.slice (sR t) fun _ => rfl) := fun t _ => by
    iintro H; iexists _; iexact H
  have h := h.trans (bigSep_mono hm)
  rw [BI.bigSep_univ_eq_bigSepL [(0 : Fin 6), 1, 2, 3, 4, 5] (by decide) (by decide)] at h
  exact h

end Pieces

end Cert.KernelIdeal.Hyper

end
-- ==== Proof.Body.lean ====
/-
# `01_k` — one device's body, from what the launch hands it to what it leaves
-/
module

public import proofs.«01_k».proof.Proof.Pieces

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

section Run

variable (m : (ℓ : Loc nD τ sig) → Buf (Elt F) ℓ) (ρ : Dev nD → PrngReg)

/-- The memory at launch: any contents, every counter zero, any generator registers. -/
def st₀ : MemSt nD τ sig (Elt F) := ⟨m, fun _ => 0, ρ⟩

/-! ## The operands as the body finds them -/

def Xs (c : Dev nD) : (cc0_stg0_0 : Ref sig .tc).ty.Contents (Elt F) := (win0_0.blk t0_0).view.read (Elt F) ((st₀ m ρ).mem ((c : Thread nD τ).loc main_arg0))
def Ws (c : Dev nD) : (cc0_stg1_0 : Ref sig .tc).ty.Contents (Elt F) := (win0_1.blk t0_0).view.read (Elt F) ((st₀ m ρ).mem ((c : Thread nD τ).loc main_arg1))
def SXs (c : Dev nD) : (cc0_stg2_0 : Ref sig .tc).ty.Contents (Elt F) := (win0_2.blk t0_0).view.read (Elt F) ((st₀ m ρ).mem ((c : Thread nD τ).loc main_arg2))
def SWs (c : Dev nD) : (cc0_stg3_0 : Ref sig .tc).ty.Contents (Elt F) := (win0_3.blk t0_0).view.read (Elt F) ((st₀ m ρ).mem ((c : Thread nD τ).loc main_arg3))
/-- The output the body leaves. -/
def outAt (c : Dev nD) : (cc0_stg4_0 : Ref sig .tc).ty.Contents (Elt F) := outV (Xs m ρ) (Ws m ρ) c (k0_pay2 (sc (SXs m ρ c)) (sc (SWs m ρ c)))

/-! ## What the body starts from and ends with -/

/-- The round at which a cell ends. -/
def rn : CI → ℕ
  | .sa d => if d = 0 then 0 else 1
  | .ra d => if d = 0 then 0 else 1
  | _ => 1

omit [FloatOps F] in
theorem rn_done (X : Dev nD → (cc0_stg0_0 : Ref sig .tc).ty.Contents (Elt F)) (W : Dev nD → (cc0_stg1_0 : Ref sig .tc).ty.Contents (Elt F)) (c : Dev nD) (k : CI) :
    ∀ r, rn k ≤ r → (hRd (F := F) X W).duties (cell c k) r = ∅ := by
  intro r hr
  by_cases h : 1 ≤ r
  · exact duties_later X W _ r h
  obtain rfl : r = 0 := by omega
  rw [duties_cell]
  cases k with
  | sa d => by_cases hd : d = 0
            · unfold dut; exact if_pos hd
            · change (if d = 0 then 0 else 1) ≤ 0 at hr; rw [if_neg hd] at hr; omega
  | ra d => by_cases hd : d = 0
            · unfold dut; exact if_pos hd
            · change (if d = 0 then 0 else 1) ≤ 0 at hr; rw [if_neg hd] at hr; omega
  | bar => change 1 ≤ 0 at hr; omega
  | ex => change 1 ≤ 0 at hr; omega
  | ss p t => change 1 ≤ 0 at hr; omega
  | rs p t => change 1 ≤ 0 at hr; omega

omit [FloatOps F] in
theorem ws_none (X : Dev nD → (cc0_stg0_0 : Ref sig .tc).ty.Contents (Elt F)) (W : Dev nD → (cc0_stg1_0 : Ref sig .tc).ty.Contents (Elt F)) (c : Dev nD) (k : CI)
    (hk : dut k = ∅) : (WS X W c k 0 : sProp 𝕄) ⊢ atPos ER (cell c k) 0 ∅ 0 := by
  unfold WS
  iintro ⟨%T, %hT, H, -⟩
  rw [hk] at hT
  obtain rfl := Finset.subset_empty.mp hT
  rw [Nat.zero_mul]
  iexact H

omit [FloatOps F] in
theorem all_done (c : Dev nD) : (iprop(atPos ER (cell c (.sa 0)) 0 ∅ 0 ∗ atPos ER (cell c (.ra 0)) 0 ∅ 0 ∗ over (fun k => Dn (F := F) c k)) : sProp 𝕄)
    ⊢ bigSep Finset.univ fun k => atPos ER (cell c k) (rn k) ∅ 0 := by
  rw [over_univ]; exact ent_rfl

omit [FloatOps F] in
/-- Every cell of a device closes: its counter is zero. -/
theorem close_all (X : Dev nD → (cc0_stg0_0 : Ref sig .tc).ty.Contents (Elt F)) (W : Dev nD → (cc0_stg1_0 : Ref sig .tc).ty.Contents (Elt F)) (K : Dev nD × CI → ℕ) (c : Dev nD) :
    (iprop(recs X W K ∗ bigSep Finset.univ fun k => atPos ER (cell c k) (rn k) ∅ 0) : sProp 𝕄)
      ⊢ iprop(|={Set.univ}=> bigSep Finset.univ fun k => semVal (cell c k) 0) := by
  have h : ∀ k ∈ (Finset.univ : Finset CI), (iprop(recs X W K ∗ atPos ER (cell c k) (rn k) ∅ 0) : sProp 𝕄) ⊢ iprop(|={Set.univ}=> semVal (cell c k) 0) := fun k _ => by
    iintro ⟨#HR, H⟩
    ihave ⟨Hi, -⟩ := (recs_at X W K c k) $$ HR
    iapply (Rounds.cell_close ER (hRd X W) (Set.mem_univ (K (c, k))) (fun h => h) (R := rn k) (rn_done X W c k))
    isplitl [Hi] <;> iassumption
  exact ((sep_mono_left (BI.bigSep_of_persistent Finset.univ (recs X W K))).trans (by rw [← bigSep_sep']; exact bigSep_mono h)).trans (bigSep_fupd _ _)

/-- What a device's body starts from. -/
def start (c : Dev nD) : sProp 𝕄 :=
  iprop((∃ K, recs (Xs m ρ) (Ws m ρ) K) ∗ (bigSep Finset.univ fun k => atPos ER (cell c k) 0 ∅ 0) ∗ tokL c items ∗ credsOf (F := F) c ∗ levAts L lv)
def Φ₀ (c : Dev nD) : sProp 𝕄 := iprop(start m ρ c ∗ scratches (F := F) c)
def Φ₁ (c : Dev nD) : sProp 𝕄 := iprop(scratches (F := F) c ∗ bigSep Finset.univ fun k => semVal (cell c k) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => Xs m ρ c
    | ⟨1, _⟩ => Ws m ρ c
    | ⟨2, _⟩ => SXs m ρ c
    | ⟨3, _⟩ => SWs m ρ c
    | ⟨4, _⟩ => outAt m ρ c
  Φ t := match t with
    | ⟨0, _⟩ => Φ₀ m ρ c
    | ⟨_ + 1, _⟩ => Φ₁ (F := F) c
  q _ := fullShare
  owed t := match t with
    | ⟨0, _⟩ => oweL c items
    | ⟨_ + 1, _⟩ => 0

theorem before_0 (c : Dev nD) (d) : (dats m ρ 0 c).before (0 : Fin 5) t0_0 d = Xs m ρ c := by unfold Dat.before; rw [if_pos (show (cfg0.win _).fetch t0_0 = true from rfl)]; rfl
theorem before_1 (c : Dev nD) (d) : (dats m ρ 0 c).before (1 : Fin 5) t0_0 d = Ws m ρ c := by unfold Dat.before; rw [if_pos (show (cfg0.win _).fetch t0_0 = true from rfl)]; rfl
theorem before_2 (c : Dev nD) (d) : (dats m ρ 0 c).before (2 : Fin 5) t0_0 d = SXs m ρ c := by unfold Dat.before; rw [if_pos (show (cfg0.win _).fetch t0_0 = true from rfl)]; rfl
theorem before_3 (c : Dev nD) (d) : (dats m ρ 0 c).before (3 : Fin 5) t0_0 d = SWs m ρ c := by unfold Dat.before; rw [if_pos (show (cfg0.win _).fetch t0_0 = true from rfl)]; rfl

omit [FloatOps F] in
theorem ent_of_eq' {P Q : sProp 𝕄} (h : P = Q) : P ⊢ Q := h ▸ ent_rfl

theorem wpc_fupd {α : Type} (c : Dev nD) (p : Prog (TpuEff nD τ sig (Elt F) Λ₀ .tc) α) (Q : α → sProp 𝕄) :
    wpc c p (fun a => iprop(|={Set.univ}=> Q a)) ⊢ wpc c p Q :=
  wp_fupd frame (wpE (defs₀ (F := F)) Variants.none (c : Thread nD τ) none) Set.univ p Q

def bodyPre (c : Dev nD) : sProp 𝕄 :=
  iprop(Φ₀ m ρ c ∗ (dats m ρ 0 c).owesAt () t0_0.castSucc
    ∗ (∃ d, owns (c : Thread nD τ) xM fullShare ((dats m ρ 0 c).before (0 : Fin 5) t0_0 d))
    ∗ (∃ d, owns (c : Thread nD τ) wM fullShare ((dats m ρ 0 c).before (1 : Fin 5) t0_0 d))
    ∗ (∃ d, owns (c : Thread nD τ) xsM fullShare ((dats m ρ 0 c).before (2 : Fin 5) t0_0 d))
    ∗ (∃ d, owns (c : Thread nD τ) wsM fullShare ((dats m ρ 0 c).before (3 : Fin 5) t0_0 d))
    ∗ (∃ d, owns (c : Thread nD τ) oM fullShare ((dats m ρ 0 c).before (4 : Fin 5) t0_0 d)))
def bodyPost (c : Dev nD) : sProp 𝕄 :=
  iprop(Φ₁ (F := F) c ∗ (dats m ρ 0 c).owesAt () t0_0.succ
    ∗ owns (c : Thread nD τ) xM fullShare (Xs m ρ c) ∗ owns (c : Thread nD τ) wM fullShare (Ws m ρ c)
    ∗ owns (c : Thread nD τ) xsM fullShare (SXs m ρ c) ∗ owns (c : Thread nD τ) wsM fullShare (SWs m ρ c)
    ∗ owns (c : Thread nD τ) oM fullShare (outAt m ρ c))

omit [FloatOps F] in
theorem ws_all (X : Dev nD → (cc0_stg0_0 : Ref sig .tc).ty.Contents (Elt F)) (W : Dev nD → (cc0_stg1_0 : Ref sig .tc).ty.Contents (Elt F)) (c : Dev nD) :
    (bigSep Finset.univ fun k => atPos ER (cell c k) 0 ∅ 0 : sProp 𝕄)
      ⊢ iprop(WS X W c (.sa 0) 0 ∗ WS X W c (.ra 0) 0 ∗ over (fun k => WS X W c k 0)) := by
  rw [← over_univ (fun k => WS X W c k 0)]
  exact bigSep_mono fun k _ => ws_zero X W c k

set_option maxHeartbeats 2000000 in
/-- The body from what the launch hands it to what it leaves. -/
theorem sound (c : Dev nD) : bodyPre m ρ c ⊢ wpc c (ap (cc0_body (F := F))) (fun _ => bodyPost m ρ c) := by
  have hfu := wpc_fupd c (ap (cc0_body (F := F))) (fun _ => bodyPost m ρ c)
  unfold bodyPre Φ₀ start
  simp only [before_0, before_1, before_2, before_3]
  iintro ⟨⟨⟨⟨%K, #HR⟩, Hat, Htok, Hcr, #Hlev⟩, Hscr⟩, Ho, ⟨%d0, H0⟩, ⟨%d1, H1⟩, ⟨%d2, H2⟩, ⟨%d3, H3⟩, ⟨%d4, H4⟩⟩
  unfold Dat.owesAt Pipeline.owesWithin
  icases Ho with ⟨%Wv, %hW, Ho⟩
  iapply hfu
  ihave HX := (x_cut c (Xs m ρ)) $$ H0
  ihave HW := (w_cut c (Ws m ρ)) $$ H1
  ihave HO := (o_cut c _) $$ H4
  ihave ⟨Hp, Hleft⟩ := (scr_cut (F := F) c) $$ Hscr
  ihave ⟨⟨%own, Hown⟩, Hh⟩ := (pieces_out (F := F) c) $$ Hp
  ihave ⟨Hs, Hr, Hws⟩ := (ws_all (Xs m ρ) (Ws m ρ) c) $$ Hat
  ihave Hs := (ws_none (Xs m ρ) (Ws m ρ) c (.sa 0) rfl) $$ Hs
  ihave Hr := (ws_none (Xs m ρ) (Ws m ρ) c (.ra 0) rfl) $$ Hr
  ihave HD := (show iprop((∃ Wv, owes (c : Thread nD τ) (oweL c items) Wv) ∗ tokL c items) ⊢ (Due (F := F) c items : sProp 𝕄) from ent_rfl) $$ [Ho Htok]
  · isplitl [Ho]
    · iexists Wv; iexact Ho
    · iexact Htok
  ihave HC := (show iprop(recs (Xs m ρ) (Ws m ρ) K ∗ levAts L lv) ⊢ (ctx (Xs m ρ) (Ws m ρ) K : sProp 𝕄) from ent_rfl) $$ [HR Hlev]
  · isplitl [HR] <;> iassumption
  iapply (core (Xs m ρ) (Ws m ρ) K c (SXs m ρ c) (SWs m ρ c) own) $$ HC HD Hws Hcr Hh HX Hown H2 H3 HW HO
  iintro HD Hdn HX Hxr H2 H3 HW Hland HO
  ihave Hall := (all_done (F := F) c) $$ [Hs Hr Hdn]
  · isplitl [Hs]; · iexact Hs
    isplitl [Hr]; · iexact Hr
    iexact Hdn
  imod (close_all (Xs m ρ) (Ws m ρ) K c) $$ [Hall] with Hz
  · isplitr; · iexact HR
    iexact Hall
  imodintro
  ihave Hp := (pieces_in c (Xs m ρ) (Ws m ρ)) $$ [Hxr Hland]
  · isplitl [Hxr]; · iexact Hxr
    iexact Hland
  ihave Hscr := (scr_join (F := F) c) $$ [Hp Hleft]
  · isplitl [Hp] <;> iassumption
  unfold bodyPost Φ₁ Dat.owesAt Pipeline.owesWithin
  isplitl [Hscr Hz]
  · isplitl [Hscr]; · iexact Hscr
    iexact Hz
  isplitl [HD]
  · unfold Due
    icases HD with ⟨⟨%Wv', Ho⟩, -⟩
    iexists Wv'
    isplitr; · ipureintro; exact fun _ _ => Or.inl trivial
    iexact Ho
  isplitl [HX]; · iapply (x_join c (Xs m ρ)); iexact HX
  isplitl [HW]; · iapply (w_join c (Ws m ρ)); iexact HW
  isplitl [H2]; · iexact H2
  isplitl [H3]; · iexact H3
  unfold outAt
  iexact HO

set_option maxRecDepth 100000 in
theorem body_eq : (defs₀ (F := F)) .tc cfg0.body (cfg0.bodyArgs t0_0 (cfg0.slots t0_0)) = ap (cc0_body (F := F)) := by
  unfold defs₀
  rfl

set_option maxRecDepth 8000 in
theorem body_obligation (c : Dev nD) : BodyObligation (dats (F := F) m ρ 0 c) (defs₀ (F := F)) Variants.none () Set.univ := fun t => by
  rw [fin_N0 t]
  rw [bigSep_W0, bigSep_W0, body_eq]
  have h := sound m ρ c
  revert h
  generalize (ap (cc0_body (F := F))) = p
  intro h
  exact h

end Run

end Cert.KernelIdeal.Hyper

end
-- ==== Proof.Launch.lean ====
/-
# `01_k` — the launch of the eight devices, and the run
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pipeline.CollectiveSegs

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

/-! ## The cells and the tokens the launch makes -/

/-- The kernel's own semaphores: every cell but the barrier's. -/
abbrev osem (k : {k : CI // k ≠ CI.bar}) : SemLoc sig := csem k.1

theorem ownSemFacts : Pipeline.OwnSemFacts cfg0.spec osem where
  isScoped := by
    have h : ∀ k ∈ allCI, k ≠ .bar → (csem k).isScoped .tc = true := by decide
    exact fun k => h k.1 (mem_allCI _) k.2
  inj := fun a b h => Subtype.ext (csem_inj h)
  disj := by
    have h : ∀ k ∈ allCI, ∀ w s, csem k ≠ .dma ((cfg0.spec w).sem s) := by decide
    exact fun k => h k.1 (mem_allCI _)

theorem cell_inj : Function.Injective (fun ck : Dev nD × CI => cell ck.1 ck.2) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨fun ck : Dev nD × CI => cell ck.1 ck.2, cell_inj⟩

/-- The cells and duties one payment fills: the one it pays and, of a copy, the payer's own. -/
def keys (x : Item) : List (CI × Fin 8) := (x.ci, x.d) :: x.snd.toList.map fun s => (s, x.d)
def TL : List (CI × Fin 8) := items.flatMap keys
theorem nodup_TL : TL.Nodup := by decide

theorem tok_inj : Function.Injective (fun ck : Dev nD × (CI × Fin 8) => ((cell ck.1 ck.2.1, 0, ck.2.2) : GSem nD τ sig × ℕ × Fin 8)) := by
  rintro ⟨c, k, d⟩ ⟨c', k', d'⟩ h
  have h0 : cell c k = cell c' k' := congrArg Prod.fst h
  have h1 : c = c' := congrArg (fun g : GSem nD τ sig => g.1.1) h0
  have h2 : k = k' := csem_inj (congrArg Prod.snd h0)
  have h3 : d = d' := congrArg (fun x : GSem nD τ sig × ℕ × Fin 8 => x.2.2) h
  rw [h1, h2, h3]
def ringToks : Finset (GSem nD τ sig × ℕ × Fin 8) :=
  ((Finset.univ : Finset (Dev nD)) ×ˢ TL.toFinset).map ⟨fun ck => (cell ck.1 ck.2.1, 0, ck.2.2), tok_inj⟩

def u₀ : UU := (initOf (Pipeline.cells cfgs cellOf_inj) (Pipeline.launchToks cfgs cellOf_inj), initOf ringCells ringToks)

/-! ### A device's own tokens, payment by payment -/

/-- The tokens of `c`'s own cells for the payments `l`. -/
def ownTok (c : Dev nD) : List Item → sProp 𝕄
  | [] => iprop(emp)
  | x :: l => iprop(dutyTok ER (cell c x.ci) 0 x.d ∗ sndTok c x.d x.snd ∗ ownTok c l)

/-- The separating product along a list. -/
def sepL {α : Type} (Φ : α → sProp 𝕄) : List α → sProp 𝕄
  | [] => iprop(emp)
  | a :: l => iprop(Φ a ∗ sepL Φ l)

omit [FloatOps F] in
theorem sepL_toFinset {α : Type} [DecidableEq α] (Φ : α → sProp 𝕄) (l : List α) (h : l.Nodup) : bigSep l.toFinset Φ = sepL Φ l := by
  induction l with
  | nil => rfl
  | cons a l ih =>
    obtain ⟨h1, h2⟩ := List.nodup_cons.mp h
    rw [List.toFinset_cons, BI.bigSep_insert (fun hm => h1 (List.mem_toFinset.mp hm)), ih h2]
    rfl

omit [FloatOps F] in
theorem sepL_keys (c : Dev nD) (l : List Item) :
    sepL (fun kd : CI × Fin 8 => (dutyTok ER (cell c kd.1) 0 kd.2 : sProp 𝕄)) (l.flatMap keys) ⊢ ownTok (F := F) c l := by
  induction l with
  | nil => exact ent_rfl
  | cons x l ih =>
    obtain ⟨ci, d, tg, snd⟩ := x
    cases snd with
    | none =>
      show iprop(dutyTok ER (cell c ci) 0 d ∗ sepL _ (l.flatMap keys)) ⊢ iprop(dutyTok ER (cell c ci) 0 d ∗ emp ∗ ownTok (F := F) c l)
      iintro ⟨H1, H2⟩
      isplitl [H1]; · iexact H1
      isplitr; · iempintro
      iapply ih; iexact H2
    | some s =>
      show iprop(dutyTok ER (cell c ci) 0 d ∗ dutyTok ER (cell c s) 0 d ∗ sepL _ (l.flatMap keys)) ⊢ iprop(dutyTok ER (cell c ci) 0 d ∗ dutyTok ER (cell c s) 0 d ∗ ownTok (F := F) c l)
      iintro ⟨H1, H2, H3⟩
      isplitl [H1]; · iexact H1
      isplitl [H2]; · iexact H2
      iapply ih; iexact H3

/-- A payment's payee, as a bijection of the devices. -/
def tgE : Tg → Dev nD ≃ Dev nD
  | .sh d => ⟨fun c => sh c d, fun c => bk c d, fun c => bk_sh c d, fun c => sh_bk c d⟩
  | .px m => ⟨fun c => px c m, fun c => px c m, fun c => px_px c m, fun c => px_px c m⟩
theorem tgE_apply (g : Tg) (c : Dev nD) : tgE g c = tgt c g := by cases g <;> rfl

omit [FloatOps F] in
/-- The tokens dealt out: each to the device that pays it. -/
theorem deal (l : List Item) : (bigSep Finset.univ fun c : Dev nD => (ownTok (F := F) c l)) = bigSep Finset.univ fun c : Dev nD => (tokL (F := F) c l) := by
  induction l with
  | nil => rfl
  | cons x l ih =>
    show (bigSep Finset.univ fun c : Dev nD => iprop(dutyTok ER (cell c x.ci) 0 x.d ∗ sndTok (F := F) c x.d x.snd ∗ ownTok (F := F) c l))
      = bigSep Finset.univ fun c : Dev nD => iprop(dutyTok ER (cell (tgt c x.tg) x.ci) 0 x.d ∗ sndTok (F := F) c x.d x.snd ∗ tokL (F := F) c l)
    rw [bigSep_sep', bigSep_sep', bigSep_sep', bigSep_sep', ih, bigSep_univ_equiv (tgE x.tg) (fun c : Dev nD => (dutyTok ER (cell c x.ci) 0 x.d : sProp 𝕄))]
    simp only [tgE_apply]

section Run

variable (m : (ℓ : Loc nD τ sig) → Buf (Elt F) ℓ) (ρ : Dev nD → PrngReg)

/-- What the launch deals a device. -/
def G (c : Dev nD) : sProp 𝕄 :=
  iprop((bigSep Finset.univ fun k : CI => roundState ER (hRd (Xs m ρ) (Ws m ρ)) (cell c k) 0)
    ∗ (bigSep Finset.univ fun k : CI => atPos ER (cell c k) 0 ∅ 0) ∗ (bigSep Finset.univ fun k : CI => reached ER (cell c k) 0) ∗ ownTok (F := F) c items)
/-- What the step over all devices makes of it. -/
def G' (c : Dev nD) : sProp 𝕄 :=
  iprop((∃ K, recs (Xs m ρ) (Ws m ρ) K) ∗ (bigSep Finset.univ fun k => atPos ER (cell c k) 0 ∅ 0) ∗ tokL (F := F) c items)

omit [FloatOps F] in
theorem cells_eq (Φ : GSem nD τ sig → sProp 𝕄) : bigSep ringCells Φ = bigSep Finset.univ fun c : Dev nD => bigSep Finset.univ fun k : CI => Φ (cell c k) := by
  unfold ringCells; rw [bigSep_map, bigSep_univ_prod]; rfl

omit [FloatOps F] in
/-- A separating product over pairs is the product over the first of the products over the second. -/
theorem sep_prod {α β : Type} [DecidableEq α] [DecidableEq β] (s : Finset α) (t : Finset β) (Φ : α × β → sProp 𝕄) :
    bigSep (s ×ˢ t) Φ = bigSep s fun a => bigSep t fun b => Φ (a, b) := by
  induction s using Finset.induction_on with
  | empty => rfl
  | insert a s ha ih =>
    have hd : Disjoint (({a} : Finset α) ×ˢ t) (s ×ˢ t) := Finset.disjoint_product.mpr (Or.inl (Finset.disjoint_singleton_left.mpr ha))
    rw [BI.bigSep_insert ha, ← ih, Finset.insert_eq, Finset.union_product, BI.bigSep_union hd, Finset.singleton_product, bigSep_map]
    rfl

omit [FloatOps F] in
theorem toks_eq : bigSep ringToks (fun x => (dutyTok ER x.1 x.2.1 x.2.2 : sProp 𝕄)) ⊢ bigSep Finset.univ fun c : Dev nD => ownTok (F := F) c items := by
  unfold ringToks; rw [bigSep_map, sep_prod]
  refine bigSep_mono fun c _ => ?_
  refine BIBase.Entails.trans (ent_of_eq' (sepL_toFinset (fun kd : CI × Fin 8 => (dutyTok ER (cell c kd.1) 0 kd.2 : sProp 𝕄)) TL nodup_TL)) ?_
  exact sepL_keys c items

omit [FloatOps F] in
theorem fund_ring : BI.own (ER (initOf ringCells ringToks)) ⊢ (|==> bigSep Finset.univ (G m ρ) : sProp 𝕄) := by
  iintro HX
  imod (Rounds.fund ER (hRd (Xs m ρ) (Ws m ρ)) ringCells ringToks) $$ HX with ⟨Hst, Hr, Hat, Htok⟩
  imodintro
  ihave Hst' := (ent_of_eq' (cells_eq fun g => roundState ER (hRd (Xs m ρ) (Ws m ρ)) g 0)) $$ Hst
  ihave Hat' := (ent_of_eq' (cells_eq fun g => atPos ER g 0 ∅ 0)) $$ Hat
  ihave Hr' := (ent_of_eq' (cells_eq fun g => reached ER g 0)) $$ Hr
  ihave Htok' := (toks_eq (F := F)) $$ Htok
  unfold G; simp only [bigSep_sep']
  isplitl [Hst']; · iexact Hst'
  isplitl [Hat']; · iexact Hat'
  isplitl [Hr']; · iexact Hr'
  iexact Htok'

omit [FloatOps F] in
theorem unscopedSems0_eq (c : Dev nD) : (unscopedSems0 c : sProp 𝕄) = semVal (cell c .bar) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = bigSep (Finset.univ.erase CI.bar) fun k => semVal (cell c k) 0 := by
  unfold Pipeline.ownSems0
  exact bigSep_subtype_ne CI.bar (fun k => (semVal (cell c k) 0 : sProp 𝕄))
omit [FloatOps F] in
theorem sems0_eq (c : Dev nD) : (bigSep Finset.univ fun k : CI => semVal (cell c k) 0 : sProp 𝕄)
    = iprop(unscopedSems0 c ∗ Pipeline.ownSems0 (Ix := Unit) (Name := ℕ) (U := UU) (Lvl := ℕ) (Val := Elt F) (τ := τ) osem c) := by
  rw [unscopedSems0_eq, ownSems0_eq, bigSep_univ_at _ CI.bar]

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (hRd (Xs m ρ) (Ws m ρ)) κ (cell c k)))
          ∗ (bigSep Finset.univ fun k : CI => atPos ER (cell c k) 0 ∅ 0) ∗ (bigSep Finset.univ fun k : CI => reached ER (cell c k) 0) ∗ ownTok (F := F) c items) := by
  have halloc : iprop((bigSep Finset.univ fun k : CI => semVal (cell c k) 0) ∗ bigSep Finset.univ fun k : CI => roundState ER (hRd (Xs m ρ) (Ws m ρ)) (cell c k) 0)
      ⊢ (|={Set.univ}=> bigSep Finset.univ fun k => iprop(∃ κ : ℕ, cellInv ER (hRd (Xs m ρ) (Ws m ρ)) κ (cell c k)) : sProp 𝕄) := by
    rw [← bigSep_sep']
    exact (bigSep_mono fun k _ => (Rounds.body_intro ER (hRd (Xs m ρ) (Ws m ρ)) (cell c k)).trans inv_alloc).trans (bigSep_fupd _ _)
  unfold G
  iintro ⟨Hos, Hus, Hst, Hat, Hr, Htok⟩
  ihave Hv := (ent_of_eq' (sems0_eq (F := F) c).symm) $$ [Hos Hus]
  · isplitl [Hus] <;> iassumption
  imod halloc $$ [Hv Hst] with Hinv
  · isplitl [Hv] <;> iassumption
  imodintro
  isplitl [Hinv]; · iexact Hinv
  isplitl [Hat]; · iexact Hat
  isplitl [Hr]; · iexact Hr
  iexact Htok

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (hRd (Xs m ρ) (Ws m ρ)) κ (cell c k)))
          ∗ (bigSep Finset.univ fun k : CI => atPos ER (cell c k) 0 ∅ 0) ∗ (bigSep Finset.univ fun k : CI => reached ER (cell c k) 0) ∗ ownTok (F := F) c items) : sProp 𝕄)
      ⊢ bigSep Finset.univ (G' m ρ) := by
  have hrec (K : Dev nD × CI → ℕ) : iprop((bigSep Finset.univ fun ck : Dev nD × CI => (cellInv ER (hRd (Xs m ρ) (Ws m ρ)) (K ck) (cell ck.1 ck.2) : sProp 𝕄))
      ∗ bigSep Finset.univ fun ck : Dev nD × CI => reached ER (cell ck.1 ck.2) 0) ⊢ recs (Xs m ρ) (Ws m ρ) K := by
    rw [← bigSep_sep']; exact ent_rfl
  rw [bigSep_sep', bigSep_sep', bigSep_sep', ← bigSep_univ_prod (fun ck : Dev nD × CI => iprop(∃ κ : ℕ, cellInv ER (hRd (Xs m ρ) (Ws m ρ)) κ (cell ck.1 ck.2))),
    ← bigSep_univ_prod (fun ck : Dev nD × CI => (reached ER (cell ck.1 ck.2) 0 : sProp 𝕄)), deal]
  iintro ⟨HI, Hat, HR, Htok⟩
  ihave HK := (BI.bigSep_exists_pi Finset.univ (fun (ck : Dev nD × CI) (κ : ℕ) => (cellInv ER (hRd (Xs m ρ) (Ws m ρ)) κ (cell ck.1 ck.2) : sProp 𝕄))) $$ HI
  icases HK with ⟨%K, HI⟩
  ihave #HRec := (hrec K) $$ [HI HR]
  · isplitl [HI] <;> iassumption
  have hg (c : Dev nD) : iprop(recs (Xs m ρ) (Ws m ρ) K ∗ (bigSep Finset.univ fun k : CI => atPos ER (cell c k) 0 ∅ 0) ∗ tokL (F := F) c items) ⊢ G' m ρ c := by
    unfold G'
    iintro ⟨H1, H2, H3⟩
    isplitl [H1]; · iexists K; iexact H1
    isplitl [H2] <;> iassumption
  iapply (with_persistent (R := recs (Xs m ρ) (Ws m ρ) K) fun c _ => hg c)
  isplitr; · iexact HRec
  iapply (ent_of_eq' (bigSep_sep' Finset.univ (fun c : Dev nD => bigSep Finset.univ fun k : CI => (atPos ER (cell c k) 0 ∅ 0 : sProp 𝕄)) (fun c => tokL (F := F) c items)).symm)
  isplitl [Hat]; · iexact Hat
  iexact Htok

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- The credits of `c`'s own cells for the payments `l`. -/
def ownCr (c : Dev nD) : List Item → sProp 𝕄
  | [] => iprop(emp)
  | x :: l => iprop(C1 (F := F) c x.ci ∗ ownCr c l)

omit [FloatOps F] in
theorem creds_list (c : Dev nD) (l : List Item) : (Pipeline.launchCred (fun d => oweL d l) c : sProp 𝕄) ⊢ ownCr (F := F) c l := by
  induction l with
  | nil =>
    show (Pipeline.launchCred (fun _ : Dev nD => (0 : CellTallies nD τ sig Unit)) c : sProp 𝕄) ⊢ iprop(emp)
    rw [Pipeline.launchCred_zero]
  | cons x l ih =>
    show (Pipeline.launchCred (fun d => oweL d l + tallyAt (cell (tgt d x.tg) x.ci) () (amt x.ci)) c : sProp 𝕄) ⊢ iprop(C1 (F := F) c x.ci ∗ ownCr (F := F) c l)
    rw [Pipeline.launchCred_add]
    have h1 : (Pipeline.launchCred (fun d => tallyAt (cell (tgt d x.tg) x.ci) () (amt x.ci)) c : sProp 𝕄) ⊢ C1 (F := F) c x.ci :=
      Pipeline.launchCred_tallyAt (csem x.ci) (fun d => tgt d x.tg) (tgE x.tg).symm (fun d => (tgE_apply x.tg _).symm.trans ((tgE x.tg).apply_symm_apply d))
        (fun d => by rw [← tgE_apply]; exact (tgE x.tg).symm_apply_apply d) () (amt x.ci) c
    iintro ⟨H1, H2⟩
    isplitl [H2]; · iapply h1; iexact H2
    iapply ih; iexact H1

omit [FloatOps F] in
theorem cred_join (g : GSem nD τ sig) (a b : ℕ) : iprop(cred (tallyAt g () a) ∗ cred (tallyAt g () b)) ⊢ (cred (tallyAt g () (a + b)) : sProp 𝕄) := by
  rw [← tallyAt_add]; exact (cred_add _ _).2

omit [FloatOps F] in
theorem seven_units (g : GSem nD τ sig) : (iprop(cred (tallyAt g () 1) ∗ cred (tallyAt g () 1) ∗ cred (tallyAt g () 1) ∗ cred (tallyAt g () 1)
    ∗ cred (tallyAt g () 1) ∗ cred (tallyAt g () 1) ∗ cred (tallyAt g () 1)) : sProp 𝕄) ⊢ cred (tallyAt g () 7) := by
  refine (sep_mono_right ?_).trans (cred_join g 1 6)
  refine (sep_mono_right ?_).trans (cred_join g 1 5)
  refine (sep_mono_right ?_).trans (cred_join g 1 4)
  refine (sep_mono_right ?_).trans (cred_join g 1 3)
  refine (sep_mono_right ?_).trans (cred_join g 1 2)
  exact cred_join g 1 1

omit [FloatOps F] in
theorem creds_at (c : Dev nD) : ownCr (F := F) c items ⊢ credsOf (F := F) c := by
  unfold items ownCr ownCr ownCr ownCr ownCr ownCr ownCr ownCr ownCr ownCr ownCr ownCr ownCr ownCr ownCr ownCr ownCr ownCr ownCr ownCr ownCr ownCr
  unfold ownCr ownCr ownCr ownCr ownCr ownCr ownCr ownCr ownCr ownCr ownCr ownCr ownCr ownCr ownCr ownCr ownCr ownCr ownCr ownCr ownCr
  iintro ⟨Hb1, Hb2, Hb3, Hb4, Hb5, Hb6, Hb7, Ha1, Ha2, Ha3, Ha4, Ha5, Ha6, Ha7, Hr000, Hr100, Hr200, Hr010, Hr011, Hr110, Hr111, Hr210, Hr211, Hr020, Hr021, Hr022, Hr023, Hr120, Hr121, Hr122, Hr123, Hr220, Hr221, Hr222, Hr223, He1, He2, He3, He4, He5, He6, He7, -⟩
  isplitl [Hb1 Hb2 Hb3 Hb4 Hb5 Hb6 Hb7]
  · iapply (seven_units (F := F) (cell c .bar))
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7
  isplitl [He1 He2 He3 He4 He5 He6 He7]
  · iapply (seven_units (F := F) (cell c .ex))
    isplitl [He1]; · iexact He1
    isplitl [He2]; · iexact He2
    isplitl [He3]; · iexact He3
    isplitl [He4]; · iexact He4
    isplitl [He5]; · iexact He5
    isplitl [He6]; · iexact He6
    iexact He7
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Hr000]; · iexact Hr000
  isplitl [Hr100]; · iexact Hr100
  isplitl [Hr200]; · iexact Hr200
  isplitl [Hr010]; · iexact Hr010
  isplitl [Hr011]; · iexact Hr011
  isplitl [Hr110]; · iexact Hr110
  isplitl [Hr111]; · iexact Hr111
  isplitl [Hr210]; · iexact Hr210
  isplitl [Hr211]; · iexact Hr211
  isplitl [Hr020]; · iexact Hr020
  isplitl [Hr021]; · iexact Hr021
  isplitl [Hr022]; · iexact Hr022
  isplitl [Hr023]; · iexact Hr023
  isplitl [Hr120]; · iexact Hr120
  isplitl [Hr121]; · iexact Hr121
  isplitl [Hr122]; · iexact Hr122
  isplitl [Hr123]; · iexact Hr123
  isplitl [Hr220]; · iexact Hr220
  isplitl [Hr221]; · iexact Hr221
  isplitl [Hr222]; · iexact Hr222
  iexact Hr223

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => oweL d items) c ∗ prngReg c (ρ c) ∗ G' m ρ c)
      ⊢ |={Set.univ}=> iprop(start m ρ c ∗ emp) := by
  iintro ⟨-, Hlev, Hcr, -, HG⟩
  ihave Hc := (creds_list (F := F) c items) $$ Hcr
  ihave Hc := (creds_at (F := F) c) $$ Hc
  imodintro
  unfold start G'
  icases HG with ⟨H1, H2, H3⟩
  isplitl
  · isplitl [H1]; · iexact H1
    isplitl [H2]; · iexact H2
    isplitl [H3]; · iexact H3
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [sems0_eq]
  iintro ⟨Hr, Hu, Ho⟩
  isplitl [Hu]; · iexact Hu
  isplitl [Ho]; · iexact Ho
  iexact Hr

theorem lv_stage : ∀ (w : Fin cfg0.W) (s : Fin (cfg0.win w).nbuf), ciOf (.dma ((cfg0.win w).sem s)) = none := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_lt c _ 0 (by unfold lv; dsimp only; rw [lv_stage w s]; rfl) items (by decide)
    · show (levAts L lv : sProp 𝕄) ⊢ MayWait (c : Thread nD τ) _ () 0
      rw [MayWait_zero]; iintro -; iempintro

/-! ## The run -/

/-- What every array a window moves ends at. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 1000000 in
/-- From any memory with every counter zero, every fair run of the eight devices ends, with the windows' arrays at the
    contents the proof data name and every counter at zero again. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => oweL d items) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Run

end Cert.KernelIdeal.Hyper

end
-- ==== Proof.Ends.lean ====
/-
# `01_k` — `01_k` — the arrays at the end of the run
-/
module

public import proofs.«01_k».proof.Proof.Launch

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

section Ends

variable (m : (ℓ : Loc nD τ sig) → Buf (Elt F) ℓ) (ρ : Dev nD → PrngReg)

/-! ## The windows are whole arrays -/

theorem Xs_eq (c : Dev nD) : Xs m ρ c = m ((c : Thread nD τ).loc main_arg0) :=
  Memref.read_access_unit_zero (Elt F) main_arg0 (funext fun a => by fin_cases a <;> decide) _ _
theorem Ws_eq (c : Dev nD) : Ws m ρ c = m ((c : Thread nD τ).loc main_arg1) :=
  Memref.read_access_unit_zero (Elt F) main_arg1 (funext fun a => by fin_cases a <;> decide) _ _
theorem SXs_eq (c : Dev nD) : SXs m ρ c = m ((c : Thread nD τ).loc main_arg2) :=
  Memref.read_access_unit_zero (Elt F) main_arg2 (funext fun a => by fin_cases a <;> decide) _ _
theorem SWs_eq (c : Dev nD) : SWs m ρ c = m ((c : Thread nD τ).loc main_arg3) :=
  Memref.read_access_unit_zero (Elt F) main_arg3 (funext fun a => by fin_cases a <;> decide) _ _

/-- The output array ends at the value the body leaves in its window. -/
theorem final_out (c : Dev nD) : (dats m ρ 0 c).arrAt 4 cfg0.N = outAt m ρ c := by
  have h1 : ((cfg0.win 4).blk t0_0).view.read (Elt F) ((dats m ρ 0 c).arrAt 4 cfg0.N) = outAt m ρ c := by
    rw [show cfg0.N = (t0_0 : Fin cfg0.N).val + 1 from rfl, (dats m ρ 0 c).arrAt_succ 4 t0_0]
    rw [show (cfg0.win 4).flush t0_0 = true from rfl, if_pos rfl]
    exact View.read_write_univ _ _
  exact (Memref.read_access_unit_zero (Elt F) main_v1 (funext fun a => by fin_cases a <;> decide) _ _).symm.trans h1

/-- The run, with the arrays named: the arguments as launched, the result at its value, every counter at zero. -/
theorem run_ends : θ_run defs (onTc (τ := τ) (main (F := F))) (st₀ m ρ) (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c 4).trans (final_out m ρ c),
      (h.1 c 0).trans ((dats m ρ 0 c).arrAt_in 0 rfl _),
      (h.1 c 1).trans ((dats m ρ 0 c).arrAt_in 1 rfl _),
      (h.1 c 2).trans ((dats m ρ 0 c).arrAt_in 2 rfl _),
      (h.1 c 3).trans ((dats m ρ 0 c).arrAt_in 3 rfl _)⟩, h.2⟩) (run_main m ρ)

end Ends

end Cert.KernelIdeal.Hyper

end
-- ==== Proof.Sums.lean ====
/-
# `01_k` — `01_k` — the result as a sum, in exact arithmetic
-/
module

public import proofs.«01_k».proof.Proof.Ends
public import Idealize.ShloMosaic.Lib.MatmulPlain

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open scoped BigOperators
open Idealize.ShloMosaic.ValueIdx

/-! ## The payloads at an index, in exact arithmetic -/

theorem pay3_at (x : S512x512.Idx → EReal) (w : S512x1408.Idx → EReal) (r : Fin 512) (l : Fin 1408) :
    (k0_pay3 (F := Ideal) x w (ix2 r l) : EReal) = ∑ k : Fin 512, x (ix2 r k) * w (ix2 k l) := by
  unfold k0_pay3
  rw [shapeCast_self]
  refine (Ideal.matmul_plain_apply none x w _ r l).trans ?_
  exact (congrArg (fun z : EReal => z + _) Ideal.ofBits_zero_f32).trans (zero_add _)

theorem pay5_at (x : S512x512.Idx → EReal) (w : S512x1344.Idx → EReal) (r : Fin 512) (l : Fin 1344) :
    (k0_pay5 (F := Ideal) x w (ix2 r l) : EReal) = ∑ k : Fin 512, x (ix2 r k) * w (ix2 k l) := by
  unfold k0_pay5
  rw [shapeCast_self]
  refine (Ideal.matmul_plain_apply none x w _ r l).trans ?_
  exact (congrArg (fun z : EReal => z + _) Ideal.ofBits_zero_f32).trans (zero_add _)

theorem pay9_at (x : S512x512.Idx → EReal) (w : S512x1408.Idx → EReal) (v : S512x1408.Idx → EReal) (r : Fin 512) (l : Fin 1408) :
    (k0_pay9 (F := Ideal) x w v (ix2 r l) : EReal) = v (ix2 r l) + ∑ k : Fin 512, x (ix2 r k) * w (ix2 k l) := by
  unfold k0_pay9
  rw [shapeCast_self]
  refine congrArg (v (ix2 r l) + ·) ((Ideal.matmul_plain_apply none x w _ r l).trans ?_)
  exact (congrArg (fun z : EReal => z + _) Ideal.ofBits_zero_f32).trans (zero_add _)

theorem pay11_at (x : S512x512.Idx → EReal) (w : S512x1344.Idx → EReal) (v : S512x1344.Idx → EReal) (r : Fin 512) (l : Fin 1344) :
    (k0_pay11 (F := Ideal) x w v (ix2 r l) : EReal) = v (ix2 r l) + ∑ k : Fin 512, x (ix2 r k) * w (ix2 k l) := by
  unfold k0_pay11
  rw [shapeCast_self]
  refine congrArg (v (ix2 r l) + ·) ((Ideal.matmul_plain_apply none x w _ r l).trans ?_)
  exact (congrArg (fun z : EReal => z + _) Ideal.ofBits_zero_f32).trans (zero_add _)

section Sums

variable (X : Dev nD → (cc0_stg0_0 : Ref sig .tc).ty.Contents (Elt Ideal)) (W : Dev nD → (cc0_stg1_0 : Ref sig .tc).ty.Contents (Elt Ideal)) (c : Dev nD)

/-! ## The strips' sums -/

/-- The row of the first operand that the output's row `r` is made of. -/
def row (r : Fin 512) : Fin 4096 := ⟨512 * c.val + r.val, by have := c.isLt; have := r.isLt; change c.val < 8 at *; omega⟩
/-- Device `d`'s product at a place of the output. -/
def tm (d : Dev nD) (i : S512x8192.Idx) : EReal := ∑ k : Fin 512, @HMul.hMul EReal EReal EReal instHMul (X d (ix2 (row c (i 0)) k)) (W d (ix2 k (i 1)))

theorem xrow_at (d : Dev nD) (r k : Fin 512) : xrow X d c (ix2 r k) = X d (ix2 (row c r) k) := by
  refine congrArg (X d) (funext fun a => Fin.ext ?_)
  match a with
  | ⟨0, _⟩ => show 512 * c.val + 1 * r.val = 512 * c.val + r.val; omega
  | ⟨1, _⟩ => show 0 + 1 * k.val = k.val; omega

theorem chA_at (q : Fin 2) (d : Dev nD) (k : Fin 512) (l : Fin 1408) (n : Fin 8192) (hn : n.val = 1408 * q.val + l.val) :
    chA q (wpart W 0 d) (ix2 k l) = W d (ix2 k n) := by
  match q with
  | 0 =>
    refine congrArg (W d) (funext fun a => Fin.ext ?_)
    match a with
    | ⟨0, _⟩ => show 0 + 1 * (0 + 1 * k.val) = k.val; omega
    | ⟨1, _⟩ => show 0 + 1 * (0 + 1 * l.val) = n.val; rw [hn]; show _ = 1408 * 0 + _; omega
  | 1 =>
    refine congrArg (W d) (funext fun a => Fin.ext ?_)
    match a with
    | ⟨0, _⟩ => show 0 + 1 * (0 + 1 * k.val) = k.val; omega
    | ⟨1, _⟩ => show 0 + 1 * (1408 + 1 * l.val) = n.val; rw [hn]; show _ = 1408 * 1 + _; omega

/-- Part 1's and part 2's columns. -/
abbrev wB (p : Fin 2) (d : Dev nD) : S512x2688.Idx → Elt Ideal .fp8e5m2 := match p with | 0 => wpart W 1 d | 1 => wpart W 2 d
theorem wB_at (p : Fin 2) (d : Dev nD) (k : Fin 512) (l : Fin 2688) (n : Fin 8192) (hn : n.val = 2816 + 2688 * p.val + l.val) :
    wB W p d (ix2 k l) = W d (ix2 k n) := by
  match p with
  | 0 =>
    refine congrArg (W d) (funext fun a => Fin.ext ?_)
    match a with
    | ⟨0, _⟩ => show 0 + 1 * k.val = k.val; omega
    | ⟨1, _⟩ => show 2816 + 1 * l.val = n.val; rw [hn]; show _ = 2816 + 2688 * 0 + _; omega
  | 1 =>
    refine congrArg (W d) (funext fun a => Fin.ext ?_)
    match a with
    | ⟨0, _⟩ => show 0 + 1 * k.val = k.val; omega
    | ⟨1, _⟩ => show 5504 + 1 * l.val = n.val; rw [hn]; show _ = 2816 + 2688 * 1 + _; omega
theorem chB_at (p q : Fin 2) (d : Dev nD) (k : Fin 512) (l : Fin 1344) (n : Fin 8192) (hn : n.val = 2816 + 2688 * p.val + (1344 * q.val + l.val)) :
    chB q (wB W p d) (ix2 k l) = W d (ix2 k n) := by
  have hl := l.isLt
  have hq := q.isLt
  refine Eq.trans ?_ (wB_at W p d k ⟨1344 * q.val + l.val, by omega⟩ n hn)
  match q with
  | 0 =>
    refine congrArg (wB W p d) (funext fun a => Fin.ext ?_)
    match a with
    | ⟨0, _⟩ => show 0 + 1 * k.val = k.val; omega
    | ⟨1, _⟩ => show 0 + 1 * l.val = 1344 * 0 + l.val; omega
  | 1 =>
    refine congrArg (wB W p d) (funext fun a => Fin.ext ?_)
    match a with
    | ⟨0, _⟩ => show 0 + 1 * k.val = k.val; omega
    | ⟨1, _⟩ => show 1344 + 1 * l.val = 1344 * 1 + l.val; omega

theorem mulA (q : Fin 2) (d : Dev nD) (r : Fin 512) (l : Fin 1408) (n : Fin 8192) (hn : n.val = 1408 * q.val + l.val) :
    (∑ k : Fin 512, @HMul.hMul EReal EReal EReal instHMul (xrow X d c (ix2 r k)) (chA q (wpart W 0 d) (ix2 k l))) = tm X W c d (ix2 r n) :=
  Finset.sum_congr rfl fun k _ => congrArg₂ (fun a b : EReal => a * b) (xrow_at X c d r k) (chA_at W q d k l n hn)
theorem mulB (p q : Fin 2) (d : Dev nD) (r : Fin 512) (l : Fin 1344) (n : Fin 8192) (hn : n.val = 2816 + 2688 * p.val + (1344 * q.val + l.val)) :
    (∑ k : Fin 512, @HMul.hMul EReal EReal EReal instHMul (xrow X d c (ix2 r k)) (chB q (wB W p d) (ix2 k l))) = tm X W c d (ix2 r n) :=
  Finset.sum_congr rfl fun k _ => congrArg₂ (fun a b : EReal => a * b) (xrow_at X c d r k) (chB_at W p q d k l n hn)

/-- A strip of part 0 after `n + 1` products: the sum of the first `n + 1` devices' products. -/
theorem valA_at (q : Fin 2) (r : Fin 512) (l : Fin 1408) (g : Fin 8192) (hg : g.val = 1408 * q.val + l.val) (n : ℕ) :
    (valA X W c q n (ix2 r l) : EReal) = ∑ s ∈ Finset.range (n + 1), tm X W c (px c (ordr 0 s)) (ix2 r g) := by
  induction n with
  | zero =>
    rw [Finset.sum_range_one, show px c (ordr 0 0) = c from px_zero c]
    exact (pay3_at _ _ r l).trans (mulA X W c q c r l g hg)
  | succ n ih =>
    rw [Finset.sum_range_succ, ← ih]
    exact (pay9_at _ _ _ r l).trans (congrArg ((valA X W c q n (ix2 r l) : EReal) + ·) (mulA X W c q _ r l g hg))
theorem valB_at (p q : Fin 2) (r : Fin 512) (l : Fin 1344) (g : Fin 8192) (hg : g.val = 2816 + 2688 * p.val + (1344 * q.val + l.val)) (n : ℕ) :
    (valB X W c p q n (ix2 r l) : EReal) = ∑ s ∈ Finset.range (n + 1), tm X W c (px c (ordr p.succ s)) (ix2 r g) := by
  induction n with
  | zero =>
    rw [Finset.sum_range_one, show px c (ordr p.succ 0) = c from px_zero c]
    exact (pay5_at _ _ r l).trans (mulB X W c p q c r l g hg)
  | succ n ih =>
    rw [Finset.sum_range_succ, ← ih]
    exact (pay11_at _ _ _ r l).trans (congrArg ((valB X W c p q n (ix2 r l) : EReal) + ·) (mulB X W c p q _ r l g hg))

/-- Every device comes once in the order of a part's summands. -/
theorem ordr_inj : ∀ (p : Fin 3) (c : Dev nD), Function.Injective fun s : Fin 8 => px c (ordr p s) := by decide
theorem ordr_sum (p : Fin 3) (f : Dev nD → EReal) : (∑ s ∈ Finset.range 8, f (px c (ordr p s))) = ∑ d : Dev nD, f d := by
  rw [Finset.sum_range]
  exact Function.Bijective.sum_comp (Finite.injective_iff_bijective.mp (ordr_inj p c)) f

/-- The strips together: at every place the sum of all the devices' products. -/
theorem preV_sum (i : S512x8192.Idx) : (preV X W c i : EReal) = ∑ d : Dev nD, tm X W c d i := by
  obtain ⟨t, j, rfl⟩ := s_place i
  refine (preV_emb X W c t j).trans ?_
  have he : ∀ (r : Fin 512) (g : Fin 8192), (r.val = 0 + 1 * (j 0).val) → g.val = so t + 1 * (j 1).val → (sR t).emb j = ix2 r g := by
    intro r g hr hg
    refine funext fun a => Fin.ext ?_
    match a with
    | ⟨0, _⟩ => exact hr.symm
    | ⟨1, _⟩ => exact hg.symm
  have hA : ∀ (q : Fin 2) (u : S512x1408.Idx) (g : Fin 8192), g.val = 1408 * q.val + (u 1).val →
      (valA X W c q 7 u : EReal) = ∑ d : Dev nD, tm X W c d (ix2 (u 0) g) := by
    intro q u g hg
    rw [show u = ix2 (u 0) (u 1) from funext fun a => by match a with | ⟨0, _⟩ => rfl | ⟨1, _⟩ => rfl]
    exact (valA_at X W c q (u 0) (u 1) g hg 7).trans (ordr_sum c 0 fun d => tm X W c d (ix2 (u 0) g))
  have hB : ∀ (p q : Fin 2) (u : S512x1344.Idx) (g : Fin 8192), g.val = 2816 + 2688 * p.val + (1344 * q.val + (u 1).val) →
      (valB X W c p q 7 u : EReal) = ∑ d : Dev nD, tm X W c d (ix2 (u 0) g) := by
    intro p q u g hg
    rw [show u = ix2 (u 0) (u 1) from funext fun a => by match a with | ⟨0, _⟩ => rfl | ⟨1, _⟩ => rfl]
    exact (valB_at X W c p q (u 0) (u 1) g hg 7).trans (ordr_sum c p.succ fun d => tm X W c d (ix2 (u 0) g))
  have hj := (j 1).isLt
  have hs := s_inb t 1
  have hlt : so t + 1 * (j 1).val < 8192 := by
    change (j 1).val < sw t at hj
    change so t + sw t ≤ 8192 at hs
    omega
  rw [he (j 0) ⟨so t + 1 * (j 1).val, hlt⟩ (by omega) rfl]
  match t with
  | 0 => exact hA 0 j _ (by show 0 + 1 * (j 1).val = 1408 * 0 + (j 1).val; omega)
  | 1 => exact hA 1 j _ (by show 1408 + 1 * (j 1).val = 1408 * 1 + (j 1).val; omega)
  | 2 => exact hB 0 0 j _ (by show 2816 + 1 * (j 1).val = 2816 + 2688 * 0 + (1344 * 0 + (j 1).val); omega)
  | 3 => exact hB 0 1 j _ (by show 4160 + 1 * (j 1).val = 2816 + 2688 * 0 + (1344 * 1 + (j 1).val); omega)
  | 4 => exact hB 1 0 j _ (by show 5504 + 1 * (j 1).val = 2816 + 2688 * 1 + (1344 * 0 + (j 1).val); omega)
  | 5 => exact hB 1 1 j _ (by show 6848 + 1 * (j 1).val = 2816 + 2688 * 1 + (1344 * 1 + (j 1).val); omega)

/-- The output at a place. -/
theorem outV_sum (s : EReal) (i : S512x8192.Idx) : (outV X W c (s : Ideal .f32) i : EReal) = (∑ d : Dev nD, tm X W c d i) * s :=
  congrArg (· * s) (preV_sum X W c i)

end Sums

end Cert.KernelIdeal.Hyper

end
-- ==== Proof.Ref.lean ====
/-
# `01_k` — the reference's result as a sum, in exact arithmetic
-/
module

public import proofs.«01_k».proof.Proof.Gen.ReferenceIdeal.Value
public import Idealize.ShloMosaic.Lib.MatmulPlain
public import Idealize.ShloMosaic.Lib.Pointwise.Sums

@[expose] public section

noncomputable section

namespace Cert.ReferenceIdeal.Plain

open Cert.ReferenceIdeal Cert.ReferenceIdeal.Gen Cert.ReferenceIdeal.Value
open Idealize.ShloMosaic Idealize.ShloMosaic.TcCoe Idealize.SL.Sem
open scoped BigOperators

section Any

variable {F : FTy → Type} [FloatOps F]

/-- The one word of a scale. -/
def word (S : S1.Idx → Elt F .f32) : Elt F .f32 := S fun a => match a with | ⟨0, _⟩ => ⟨0, Nat.one_pos⟩

theorem hz : (![0, 0] : Fin 2 → Nat) = fun _ => 0 := funext fun a => by fin_cases a <;> rfl

/-- What the body leaves in the output's window: its payload at the whole operands and the two words. -/
theorem out_pay (c : Dev nD) (arg0 : Memref sig .tc .vmem S4096x4096 .fp8e5m2) (h0 : arg0.IsWhole) (arg1 : Memref sig .tc .vmem S4096x8192 .fp8e5m2) (h1 : arg1.IsWhole)
    (arg2 : Memref sig .tc .smem S1 .f32) (h2 : arg2.IsWhole) (arg3 : Memref sig .tc .smem S1 .f32) (h3 : arg3.IsWhole)
    (arg4 : Memref sig .tc .vmem S4096x8192 .f32) (h4 : arg4.IsWhole)
    (x0 : Vec F S4096x4096 .fp8e5m2) (x1 : Vec F S4096x8192 .fp8e5m2) (x2 x3 : Vec F S1 .f32) :
    out0_A_4 c arg0 h0 arg1 h1 arg2 h2 arg3 h3 arg4 h4 x0 x1 x2 x3 = k0_pay1 x0 x1 (word x2) (word x3) := by
  unfold out0_A_4
  rw [View.read_writes_junk_eq_canon]
  show View.canon ([⟨Rect.unit ![0, 0] S4096x8192.size inb_S4096x8192_S4096x8192_0_0,
      k0_pay1
        (View.readAt (Elt F) arg0.view (Rect.unit ![0, 0] S4096x4096.size inb_S4096x4096_S4096x4096_0_0).toLoadRect (h0.unread x0))
        (View.readAt (Elt F) arg1.view (Rect.unit ![0, 0] S4096x8192.size inb_S4096x8192_S4096x8192_0_0).toLoadRect (h1.unread x1))
        (View.readAt (Elt F) arg2.view (Rect.unit (s := S1) ![0] S1.size inb_S1_S1_0).toLoadRect (h2.unread x2) _)
        (View.readAt (Elt F) arg3.view (Rect.unit (s := S1) ![0] S1.size inb_S1_S1_0).toLoadRect (h3.unread x3) _)⟩] :
      List (View.Piece (Elt F) S4096x8192 .f32)) = _
  rw [View.canon_unit_zero hz, View.readAt_eq_ld, View.readAt_eq_ld, View.readAt_eq_ld, View.readAt_eq_ld,
    h0.read_unread, h1.read_unread, h2.read_unread, h3.read_unread, View.ld_unit_zero hz, View.ld_unit_zero hz]
  exact congrArg₂ (k0_pay1 x0 x1) (congrArg x2 (funext fun a => by match a with | ⟨0, _⟩ => rfl))
    (congrArg x3 (funext fun a => by match a with | ⟨0, _⟩ => rfl))

variable (m : (ℓ : Loc nD τ sig) → Buf (Elt F) ℓ)

/-- The grid's one point. -/
abbrev pt : Fin cfg0.N := ⟨0, by decide⟩

theorem in0 (c : Dev nD) : iblk m c 0 pt = m ((c : Thread nD τ).loc main_arg0) :=
  (Memref.read_access_unit_zero (Elt F) main_arg0 (funext fun a => by fin_cases a <;> decide) _ _).trans (V_main_arg0 m c)
theorem in1 (c : Dev nD) : iblk m c 1 pt = m ((c : Thread nD τ).loc main_arg1) :=
  (Memref.read_access_unit_zero (Elt F) main_arg1 (funext fun a => by fin_cases a <;> decide) _ _).trans (V_main_arg1 m c)
theorem in2 (c : Dev nD) : iblk m c 2 pt = m ((c : Thread nD τ).loc main_arg2) :=
  (Memref.read_access_unit_zero (Elt F) main_arg2 (funext fun a => by fin_cases a <;> decide) _ _).trans (V_main_arg2 m c)
theorem in3 (c : Dev nD) : iblk m c 3 pt = m ((c : Thread nD τ).loc main_arg3) :=
  (Memref.read_access_unit_zero (Elt F) main_arg3 (funext fun a => by fin_cases a <;> decide) _ _).trans (V_main_arg3 m c)

/-- The result array after the run. -/
theorem final (c : Dev nD) : (dats m 0 c).arrAt 4 cfg0.N
    = k0_pay1 (m ((c : Thread nD τ).loc main_arg0)) (m ((c : Thread nD τ).loc main_arg1))
        (word (m ((c : Thread nD τ).loc main_arg2))) (word (m ((c : Thread nD τ).loc main_arg3))) := by
  have h1 := blocks4 m c pt rfl
  rw [flushed4_A m c pt, out_pay, in0, in1, in2, in3] at h1
  exact (Memref.read_access_unit_zero (Elt F) main_v0 (funext fun a => by fin_cases a <;> decide) _ _).symm.trans h1

end Any

/-- The reference's result at a place: the 4096 products in eight runs of 512, times the scale. -/
theorem pay_sum (x : S4096x4096.Idx → EReal) (w : S4096x8192.Idx → EReal) (s t : EReal) (r : Fin 4096) (l : Fin 8192) :
    (k0_pay1 (F := Ideal) x w s t (ValueIdx.ix2 r l) : EReal)
      = (∑ d : Fin 8, ∑ k : Fin 512, x (ValueIdx.ix2 r ⟨d.val * 512 + k.val, by have := d.isLt; have := k.isLt; omega⟩)
          * w (ValueIdx.ix2 ⟨d.val * 512 + k.val, by have := d.isLt; have := k.isLt; omega⟩ l)) * (s * t) := by
  unfold k0_pay1
  refine congrArg (· * (s * t)) ?_
  refine (Ideal.matmul_plain_apply (φ₁ := .f32) (φ₂ := .f32) none x w _ r l).trans ?_
  refine ((congrArg (fun z : EReal => z + _) Ideal.ofBits_zero_f32).trans (zero_add _)).trans ?_
  exact Fin.sum_univ_tiles 8 512 (by decide) fun k => x (ValueIdx.ix2 r k) * w (ValueIdx.ix2 k l)

end Cert.ReferenceIdeal.Plain

end
-- ==== Proof.Agree.lean ====
/-
# `01_k` — each device's result is its block of the reference's, in exact arithmetic
-/
module

public import proofs.«01_k».proof.Defs
public import proofs.«01_k».proof.Proof.Sums
public import proofs.«01_k».proof.Proof.Ref

@[expose] public section

noncomputable section

namespace Cert.Proof

open Idealize.ShloMosaic Idealize.ShloMosaic.TcCoe Idealize.SL.Sem
open Cert.KernelIdeal.Hyper
open scoped BigOperators

/-- The two programs' values, of arrays related as the claim relates them: the kernel's sum over the devices is the
    reference's sum over the runs of 512 contracted positions. -/
theorem value_eq (x : (⟨2, ![4096, 4096]⟩ : Shape).Idx → EReal) (w : (⟨2, ![4096, 8192]⟩ : Shape).Idx → EReal) (s t : EReal)
    (X : Dev KernelIdeal.nD → (KernelIdeal.cc0_stg0_0 : Ref KernelIdeal.sig .tc).ty.Contents (Elt Ideal))
    (W : Dev KernelIdeal.nD → (KernelIdeal.cc0_stg1_0 : Ref KernelIdeal.sig .tc).ty.Contents (Elt Ideal))
    (hX : ∀ d, X d = Layout.block ⟨2, ![4096, 512]⟩ ⟨2, ![4096, 4096]⟩ 1 8 d x)
    (hW : ∀ d, W d = Layout.block ⟨2, ![512, 8192]⟩ ⟨2, ![4096, 8192]⟩ 0 8 d w) (c : Dev KernelIdeal.nD) :
    outV X W c ((s * t : EReal) : Ideal .f32)
      = Layout.block ⟨2, ![512, 8192]⟩ ⟨2, ![4096, 8192]⟩ 0 8 c (ReferenceIdeal.Gen.k0_pay1 (F := Ideal) x w s t) := by
  funext i
  have e : ∀ h : Layout.Tiles ⟨2, ![512, 8192]⟩ ⟨2, ![4096, 8192]⟩ 0 8, h.idx c i = ValueIdx.ix2 (row c (i 0)) (i 1) := by
    intro h
    refine funext fun a => Fin.ext ?_
    match a with
    | ⟨0, _⟩ => show c.val * 512 + (i 0).val = 512 * c.val + (i 0).val; omega
    | ⟨1, _⟩ => rfl
  rw [Layout.block_apply, e]
  refine (outV_sum X W c (s * t) i).trans (Eq.trans ?_ (ReferenceIdeal.Plain.pay_sum x w s t (row c (i 0)) (i 1)).symm)
  refine congrArg (fun z : EReal => z * (s * t)) (Finset.sum_congr rfl fun d _ => Finset.sum_congr rfl fun k _ => ?_)
  refine congrArg₂ (fun a b : EReal => a * b) ?_ ?_
  · rw [hX d, Layout.block_apply]
    refine congrArg x (funext fun a => Fin.ext ?_)
    match a with
    | ⟨0, _⟩ => rfl
    | ⟨1, _⟩ => rfl
  · rw [hW d, Layout.block_apply]
    refine congrArg w (funext fun a => Fin.ext ?_)
    match a with
    | ⟨0, _⟩ => rfl
    | ⟨1, _⟩ => rfl

/-- The two programs read a scale at the same word. -/
theorem sc_word (S : KernelIdeal.S1.Idx → Elt Ideal .f32) : sc S = ReferenceIdeal.Plain.word (F := Ideal) S :=
  congrArg S (funext fun a => by match a with | ⟨0, _⟩ => rfl)

/-- On related arguments both programs run, and every device ends holding its block of rows of the reference's result. -/
theorem algebraic : Cert.algebraic_KernelIdeal_ReferenceIdeal := by
  intro m g m' g' _ hm
  refine ⟨(ReferenceIdeal.Gen.dats m' 0 0).arrAt 4 ReferenceIdeal.cfg0.N, ?_, ?_⟩
  · refine (θ_run _ _ _).mono (fun r h c => ⟨((h.1 c).1).trans ?_, (h.1 c).2⟩) (run_ends (F := Ideal) m g)
    rw [ReferenceIdeal.Plain.final]
    refine Eq.trans ?_ (value_eq _ _ _ _ (Xs m g) (Ws m g) (fun d => (Xs_eq m g d).trans (hm d).1) (fun d => (Ws_eq m g d).trans (hm d).2.1) c)
    show outV _ _ c _ = outV _ _ c _
    refine congrArg (outV (Xs m g) (Ws m g) c) ?_
    have h2 : sc (SXs (F := Ideal) m g c) = ReferenceIdeal.Plain.word _ := (congrArg sc ((SXs_eq m g c).trans (hm c).2.2.1)).trans (sc_word _)
    have h3 : sc (SWs (F := Ideal) m g c) = ReferenceIdeal.Plain.word _ := (congrArg sc ((SWs_eq m g c).trans (hm c).2.2.2)).trans (sc_word _)
    rw [h2, h3]
    rfl
  · exact (θ_run _ _ _).mono (fun r h => h 0) (ReferenceIdeal.Value.run_blocks (F := Ideal) m' g')

end Cert.Proof

end
-- ==== Proof.lean ====
module

public import proofs.«01_k».proof.Defs
public import proofs.«01_k».proof.Proof.KEnds
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- Every fair run of the eight devices ends, the arguments as launched and every counter at zero: at the machine's floats. -/
theorem quiet_kernel : Cert.quiescent_Kernel := fun m g _ =>
  (θ_run _ _ _).mono (fun _ h => ⟨fun c => (h.1 c).2, h.2⟩) (Cert.Kernel.Hyper.run_ends (F := Bits) m g)

/-- The same run in exact arithmetic. -/
theorem quiet_ideal : Cert.quiescent_KernelIdeal := fun m g _ =>
  (θ_run _ _ _).mono (fun _ h => ⟨fun c => (h.1 c).2, h.2⟩) (Cert.KernelIdeal.Hyper.run_ends (F := Ideal) m g)

/-- The reference's run on its one device. -/
theorem quiet_reference : Cert.quiescent_ReferenceIdeal := fun m g _ => Cert.ReferenceIdeal.Gen.frame m g

theorem claim : Cert.Claim := ⟨Cert.Kernel.Gen.facts, Cert.KernelIdeal.Gen.facts, Cert.ReferenceIdeal.Gen.facts,
  quiet_kernel, quiet_ideal, quiet_reference, trivial, algebraic⟩

end Cert.Proof

end
